-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_top_logit [hPre_finite_top_logit : Cert.Pre_finite_top_logit.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_logit [hPre_finite_top_logit : Cert.Pre_finite_top_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_top_logit [hKernelIdeal : Cert.KernelIdeal.Facts] [hPre_finite_top_logit : Cert.Pre_finite_top_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_top_logit [hReferenceIdeal : Cert.ReferenceIdeal.Facts] [hPre_finite_top_logit : Cert.Pre_finite_top_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_top_logit [hKernelIdeal : Cert.KernelIdeal.Facts] [hReferenceIdeal : Cert.ReferenceIdeal.Facts] [hPre_finite_top_logit : Cert.Pre_finite_top_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_top_logit : Cert.Pre_finite_top_logit.Facts),
    quiescent_Kernel (hKernel := hKernel)
    ∧ quiescent_KernelIdeal (hKernelIdeal := hKernelIdeal)
    ∧ quiescent_KernelIdeal_pre_finite_top_logit (hKernelIdeal := hKernelIdeal) (hPre_finite_top_logit := hPre_finite_top_logit)
    ∧ quiescent_ReferenceIdeal (hReferenceIdeal := hReferenceIdeal)
    ∧ quiescent_ReferenceIdeal_pre_finite_top_logit (hReferenceIdeal := hReferenceIdeal) (hPre_finite_top_logit := hPre_finite_top_logit)
    ∧ preserves_Kernel_KernelIdeal
    ∧ algebraic_KernelIdeal_ReferenceIdeal_pre_finite_top_logit (hKernelIdeal := hKernelIdeal) (hReferenceIdeal := hReferenceIdeal) (hPre_finite_top_logit := hPre_finite_top_logit)
-- ==== Pre_finite_top_logit.lean ====
abbrev S2048x1024 : Shape := ⟨2, ![2048, 1024]⟩
abbrev S16x512x1024 : Shape := ⟨3, ![16, 512, 1024]⟩
abbrev S16x1024x512 : Shape := ⟨3, ![16, 1024, 512]⟩
abbrev S1024x1024 : Shape := ⟨2, ![1024, 1024]⟩
abbrev S16x1024 : Shape := ⟨2, ![16, 1024]⟩
abbrev S1024x16 : Shape := ⟨2, ![1024, 16]⟩
abbrev S2048x16 : Shape := ⟨2, ![2048, 16]⟩
abbrev S_ : Shape := ⟨0, ![]⟩
abbrev S2048 : Shape := ⟨1, ![2048]⟩

class Facts : Prop where
  transposes_S16x1024_S1024x16_1_0 : S16x1024.Transposes [1, 0] S1024x16
  reducesTo_S2048x16_S2048_d1 : S2048x16.ReducesTo [1] S2048
  h_S_ : 0 < S_.numel
  bcast_S_S2048 : S_.BroadcastsInDim S2048 (![] : Fin 0 → Fin S2048.rank)
  dot_S2048x1024_S1024x16_S2048x16_1_0_0_1_n_n_wf : DotDims.WF S2048x1024 S1024x16 S2048x16 [1] [0] [0] [1] [] []

variable [Facts]

def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def fn {F : FTy → Type} [FloatOps F] (main_arg0 : FVec F S2048x1024 .f32) (main_arg1 : FVec F S16x512x1024 .f32) (main_arg2 : FVec F S16x1024x512 .f32) (main_arg3 : FVec F S1024x1024 .f32) (main_arg4 : FVec F S1024x1024 .f32) (main_arg5 : FVec F S16x1024 .f32) : IVec S2048 1 :=
  let main_v0 : FVec F S1024x16 .f32 := (transpose S1024x16 [1, 0] · transposes_S16x1024_S1024x16_1_0) main_arg5
  let main_v1 : FVec F S2048x16 .f32 := (fun l r => Host.dotGeneral dot_S2048x1024_S1024x16_S2048x16_1_0_0_1_n_n none l r) main_arg0 main_v0
  let main_cst : FVec F S_ .f32 := constant S_ .f32 0xFF800000#32
  let main_v2 : FVec F S2048 .f32 := (fun x v => Host.reduce FloatOps.maximumf x v reducesTo_S2048x16_S2048_d1 h_S_) main_v1 main_cst
  let main_v3 : FVec F S2048 .f32 := Host.absf main_v2
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  main_v5
-- ==== Kernel.lean ====
abbrev S2048x1024 : Shape := ⟨2, ![2048, 1024]⟩
abbrev S16x512x1024 : Shape := ⟨3, ![16, 512, 1024]⟩
abbrev S16x1024x512 : Shape := ⟨3, ![16, 1024, 512]⟩
abbrev S1024x1024 : Shape := ⟨2, ![1024, 1024]⟩
abbrev S16x1024 : Shape := ⟨2, ![16, 1024]⟩
abbrev S2x512x1024 : Shape := ⟨3, ![2, 512, 1024]⟩
abbrev S18x512x1024 : Shape := ⟨3, ![18, 512, 1024]⟩
abbrev S1024x512 : Shape := ⟨2, ![1024, 512]⟩
abbrev S1x1024x512 : Shape := ⟨3, ![1, 1024, 512]⟩
abbrev S2x1024x512 : Shape := ⟨3, ![2, 1024, 512]⟩
abbrev S18x1024x512 : Shape := ⟨3, ![18, 1024, 512]⟩
abbrev S1x512x1024 : Shape := ⟨3, ![1, 512, 1024]⟩
abbrev S2048x32 : Shape := ⟨2, ![2048, 32]⟩
abbrev S2048x16 : Shape := ⟨2, ![2048, 16]⟩
abbrev S2048 : Shape := ⟨1, ![2048]⟩
abbrev S2048x1 : Shape := ⟨2, ![2048, 1]⟩
abbrev S512x1024 : Shape := ⟨2, ![512, 1024]⟩
abbrev S2048x512 : Shape := ⟨2, ![2048, 512]⟩
abbrev S32x1 : Shape := ⟨2, ![32, 1]⟩

abbrev nBuf : Space → Nat
  | .hbm => 15
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S16x512x1024, .f32⟩
  | .hbm, ⟨2, _⟩ => ⟨S16x1024x512, .f32⟩
  | .hbm, ⟨3, _⟩ => ⟨S1024x1024, .f32⟩
  | .hbm, ⟨4, _⟩ => ⟨S1024x1024, .f32⟩
  | .hbm, ⟨5, _⟩ => ⟨S16x1024, .f32⟩
  | .hbm, ⟨6, _⟩ => ⟨S2x512x1024, .f32⟩
  | .hbm, ⟨7, _⟩ => ⟨S18x512x1024, .f32⟩
  | .hbm, ⟨8, _⟩ => ⟨S1024x512, .f32⟩
  | .hbm, ⟨9, _⟩ => ⟨S1024x512, .f32⟩
  | .hbm, ⟨10, _⟩ => ⟨S1x1024x512, .f32⟩
  | .hbm, ⟨11, _⟩ => ⟨S1x1024x512, .f32⟩
  | .hbm, ⟨12, _⟩ => ⟨S2x1024x512, .f32⟩
  | .hbm, ⟨13, _⟩ => ⟨S18x1024x512, .f32⟩
  | .hbm, ⟨14, _⟩ => ⟨S2048x1024, .f32⟩
  | .local _ .vmem, ⟨0, _⟩ => ⟨S2048x1024, .f32⟩
  | .local _ .vmem, ⟨1, _⟩ => ⟨S16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x512, .f32⟩
  | .local _ .vmem, ⟨5, _⟩ => ⟨S1x1024x512, .f32⟩
  | .local _ .vmem, ⟨6, _⟩ => ⟨S2048x1024, .f32⟩
  | .local _ .vmem, ⟨7, _⟩ => ⟨S2048x32, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x1024 : Shape := ⟨2, ![2048, 1024]⟩
abbrev S16x512x1024 : Shape := ⟨3, ![16, 512, 1024]⟩
abbrev S16x1024x512 : Shape := ⟨3, ![16, 1024, 512]⟩
abbrev S1024x1024 : Shape := ⟨2, ![1024, 1024]⟩
abbrev S16x1024 : Shape := ⟨2, ![16, 1024]⟩
abbrev S_ : Shape := ⟨0, ![]⟩
abbrev S1024x16 : Shape := ⟨2, ![1024, 16]⟩
abbrev S2048x16 : Shape := ⟨2, ![2048, 16]⟩
abbrev S2048 : Shape := ⟨1, ![2048]⟩
abbrev S2048x1 : Shape := ⟨2, ![2048, 1]⟩
abbrev S2048x2 : Shape := ⟨2, ![2048, 2]⟩
abbrev S1x512x1024 : Shape := ⟨3, ![1, 512, 1024]⟩
abbrev S512x1024 : Shape := ⟨2, ![512, 1024]⟩
abbrev S1024x512 : Shape := ⟨2, ![1024, 512]⟩
abbrev S2048x512 : Shape := ⟨2, ![2048, 512]⟩
abbrev S1x1024x512 : Shape := ⟨3, ![1, 1024, 512]⟩

abbrev nBuf : Space → Nat
  | .hbm => 493
  | .vmem => 0
  | .smem => 0
  | _ => 0

abbrev hbmTy0_0 (i : Nat) : BufTy := match i % 128 with
  | 0 => ⟨S2048x1024, .f32⟩
  | 1 => ⟨S16x512x1024, .f32⟩
  | 2 => ⟨S16x1024x512, .f32⟩
  | 3 => ⟨S1024x1024, .f32⟩
  | 4 => ⟨S1024x1024, .f32⟩
  | 5 => ⟨S16x1024, .f32⟩
  | 6 => ⟨S1024x1024, .f32⟩
  | 7 => ⟨S2048x1024, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S1024x1024, .f32⟩
  | 18 => ⟨S2048x1024, .f32⟩
  | 19 => ⟨S1024x16, .f32⟩
  | 20 => ⟨S2048x16, .f32⟩
  | 21 => ⟨S_, .f32⟩
  | 22 => ⟨S2048, .f32⟩
  | 23 => ⟨S_, .f32⟩
  | 24 => ⟨S2048, .f32⟩
  | 25 => ⟨S2048, .f32⟩
  | 26 => ⟨S2048x1, .f32⟩
  | 27 => ⟨S2048x16, .f32⟩
  | 28 => ⟨S2048x16, .f32⟩
  | 29 => ⟨S2048x16, .f32⟩
  | 30 => ⟨S_, .f32⟩
  | 31 => ⟨S2048, .f32⟩
  | 32 => ⟨S2048x1, .f32⟩
  | 33 => ⟨S2048x16, .f32⟩
  | 34 => ⟨S2048x16, .f32⟩
  | 35 => ⟨S2048x2, .f32⟩
  | 36 => ⟨S2048x2, .i32⟩
  | 37 => ⟨S_, .f32⟩
  | 38 => ⟨S2048, .f32⟩
  | 39 => ⟨S2048x1, .f32⟩
  | 40 => ⟨S2048x2, .f32⟩
  | 41 => ⟨S2048x2, .f32⟩
  | 42 => ⟨S_, .f32⟩
  | 43 => ⟨S2048x1024, .f32⟩
  | 44 => ⟨S_, .i32⟩
  | 45 => ⟨S2048x2, .i32⟩
  | 46 => ⟨S2048x2, .i1⟩
  | 47 => ⟨S2048x2, .f32⟩
  | 48 => ⟨S2048x2, .f32⟩
  | 49 => ⟨S_, .f32⟩
  | 50 => ⟨S2048, .f32⟩
  | 51 => ⟨S1x512x1024, .f32⟩
  | 52 => ⟨S512x1024, .f32⟩
  | 53 => ⟨S1024x512, .f32⟩
  | 54 => ⟨S2048x512, .f32⟩
  | 55 => ⟨S2048x512, .f32⟩
  | 56 => ⟨S2048x512, .f32⟩
  | 57 => ⟨S_, .f32⟩
  | 58 => ⟨S2048x512, .f32⟩
  | 59 => ⟨S2048x512, .f32⟩
  | 60 => ⟨S_, .f32⟩
  | 61 => ⟨S2048x512, .f32⟩
  | 62 => ⟨S2048x512, .f32⟩
  | 63 => ⟨S2048x512, .f32⟩
  | 64 => ⟨S1x1024x512, .f32⟩
  | 65 => ⟨S1024x512, .f32⟩
  | 66 => ⟨S512x1024, .f32⟩
  | 67 => ⟨S2048x1024, .f32⟩
  | 68 => ⟨S2048x1, .f32⟩
  | 69 => ⟨S2048x1024, .f32⟩
  | 70 => ⟨S2048x1024, .f32⟩
  | 71 => ⟨S2048x1024, .f32⟩
  | 72 => ⟨S_, .i32⟩
  | 73 => ⟨S2048x2, .i32⟩
  | 74 => ⟨S2048x2, .i1⟩
  | 75 => ⟨S2048x2, .f32⟩
  | 76 => ⟨S2048x2, .f32⟩
  | 77 => ⟨S_, .f32⟩
  | 78 => ⟨S2048, .f32⟩
  | 79 => ⟨S1x512x1024, .f32⟩
  | 80 => ⟨S512x1024, .f32⟩
  | 81 => ⟨S1024x512, .f32⟩
  | 82 => ⟨S2048x512, .f32⟩
  | 83 => ⟨S2048x512, .f32⟩
  | 84 => ⟨S2048x512, .f32⟩
  | 85 => ⟨S_, .f32⟩
  | 86 => ⟨S2048x512, .f32⟩
  | 87 => ⟨S2048x512, .f32⟩
  | 88 => ⟨S_, .f32⟩
  | 89 => ⟨S2048x512, .f32⟩
  | 90 => ⟨S2048x512, .f32⟩
  | 91 => ⟨S2048x512, .f32⟩
  | 92 => ⟨S1x1024x512, .f32⟩
  | 93 => ⟨S1024x512, .f32⟩
  | 94 => ⟨S512x1024, .f32⟩
  | 95 => ⟨S2048x1024, .f32⟩
  | 96 => ⟨S2048x1, .f32⟩
  | 97 => ⟨S2048x1024, .f32⟩
  | 98 => ⟨S2048x1024, .f32⟩
  | 99 => ⟨S2048x1024, .f32⟩
  | 100 => ⟨S_, .i32⟩
  | 101 => ⟨S2048x2, .i32⟩
  | 102 => ⟨S2048x2, .i1⟩
  | 103 => ⟨S2048x2, .f32⟩
  | 104 => ⟨S2048x2, .f32⟩
  | 105 => ⟨S_, .f32⟩
  | 106 => ⟨S2048, .f32⟩
  | 107 => ⟨S1x512x1024, .f32⟩
  | 108 => ⟨S512x1024, .f32⟩
  | 109 => ⟨S1024x512, .f32⟩
  | 110 => ⟨S2048x512, .f32⟩
  | 111 => ⟨S2048x512, .f32⟩
  | 112 => ⟨S2048x512, .f32⟩
  | 113 => ⟨S_, .f32⟩
  | 114 => ⟨S2048x512, .f32⟩
  | 115 => ⟨S2048x512, .f32⟩
  | 116 => ⟨S_, .f32⟩
  | 117 => ⟨S2048x512, .f32⟩
  | 118 => ⟨S2048x512, .f32⟩
  | 119 => ⟨S2048x512, .f32⟩
  | 120 => ⟨S1x1024x512, .f32⟩
  | 121 => ⟨S1024x512, .f32⟩
  | 122 => ⟨S512x1024, .f32⟩
  | 123 => ⟨S2048x1024, .f32⟩
  | 124 => ⟨S2048x1, .f32⟩
  | 125 => ⟨S2048x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S_, .i32⟩
  | 1 => ⟨S2048x2, .i32⟩
  | 2 => ⟨S2048x2, .i1⟩
  | 3 => ⟨S2048x2, .f32⟩
  | 4 => ⟨S2048x2, .f32⟩
  | 5 => ⟨S_, .f32⟩
  | 6 => ⟨S2048, .f32⟩
  | 7 => ⟨S1x512x1024, .f32⟩
  | 8 => ⟨S512x1024, .f32⟩
  | 9 => ⟨S1024x512, .f32⟩
  | 10 => ⟨S2048x512, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S1x1024x512, .f32⟩
  | 21 => ⟨S1024x512, .f32⟩
  | 22 => ⟨S512x1024, .f32⟩
  | 23 => ⟨S2048x1024, .f32⟩
  | 24 => ⟨S2048x1, .f32⟩
  | 25 => ⟨S2048x1024, .f32⟩
  | 26 => ⟨S2048x1024, .f32⟩
  | 27 => ⟨S2048x1024, .f32⟩
  | 28 => ⟨S_, .i32⟩
  | 29 => ⟨S2048x2, .i32⟩
  | 30 => ⟨S2048x2, .i1⟩
  | 31 => ⟨S2048x2, .f32⟩
  | 32 => ⟨S2048x2, .f32⟩
  | 33 => ⟨S_, .f32⟩
  | 34 => ⟨S2048, .f32⟩
  | 35 => ⟨S1x512x1024, .f32⟩
  | 36 => ⟨S512x1024, .f32⟩
  | 37 => ⟨S1024x512, .f32⟩
  | 38 => ⟨S2048x512, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S2048x512, .f32⟩
  | 48 => ⟨S1x1024x512, .f32⟩
  | 49 => ⟨S1024x512, .f32⟩
  | 50 => ⟨S512x1024, .f32⟩
  | 51 => ⟨S2048x1024, .f32⟩
  | 52 => ⟨S2048x1, .f32⟩
  | 53 => ⟨S2048x1024, .f32⟩
  | 54 => ⟨S2048x1024, .f32⟩
  | 55 => ⟨S2048x1024, .f32⟩
  | 56 => ⟨S_, .i32⟩
  | 57 => ⟨S2048x2, .i32⟩
  | 58 => ⟨S2048x2, .i1⟩
  | 59 => ⟨S2048x2, .f32⟩
  | 60 => ⟨S2048x2, .f32⟩
  | 61 => ⟨S_, .f32⟩
  | 62 => ⟨S2048, .f32⟩
  | 63 => ⟨S1x512x1024, .f32⟩
  | 64 => ⟨S512x1024, .f32⟩
  | 65 => ⟨S1024x512, .f32⟩
  | 66 => ⟨S2048x512, .f32⟩
  | 67 => ⟨S2048x512, .f32⟩
  | 68 => ⟨S2048x512, .f32⟩
  | 69 => ⟨S_, .f32⟩
  | 70 => ⟨S2048x512, .f32⟩
  | 71 => ⟨S2048x512, .f32⟩
  | 72 => ⟨S_, .f32⟩
  | 73 => ⟨S2048x512, .f32⟩
  | 74 => ⟨S2048x512, .f32⟩
  | 75 => ⟨S2048x512, .f32⟩
  | 76 => ⟨S1x1024x512, .f32⟩
  | 77 => ⟨S1024x512, .f32⟩
  | 78 => ⟨S512x1024, .f32⟩
  | 79 => ⟨S2048x1024, .f32⟩
  | 80 => ⟨S2048x1, .f32⟩
  | 81 => ⟨S2048x1024, .f32⟩
  | 82 => ⟨S2048x1024, .f32⟩
  | 83 => ⟨S2048x1024, .f32⟩
  | 84 => ⟨S_, .i32⟩
  | 85 => ⟨S2048x2, .i32⟩
  | 86 => ⟨S2048x2, .i1⟩
  | 87 => ⟨S2048x2, .f32⟩
  | 88 => ⟨S2048x2, .f32⟩
  | 89 => ⟨S_, .f32⟩
  | 90 => ⟨S2048, .f32⟩
  | 91 => ⟨S1x512x1024, .f32⟩
  | 92 => ⟨S512x1024, .f32⟩
  | 93 => ⟨S1024x512, .f32⟩
  | 94 => ⟨S2048x512, .f32⟩
  | 95 => ⟨S2048x512, .f32⟩
  | 96 => ⟨S2048x512, .f32⟩
  | 97 => ⟨S_, .f32⟩
  | 98 => ⟨S2048x512, .f32⟩
  | 99 => ⟨S2048x512, .f32⟩
  | 100 => ⟨S_, .f32⟩
  | 101 => ⟨S2048x512, .f32⟩
  | 102 => ⟨S2048x512, .f32⟩
  | 103 => ⟨S2048x512, .f32⟩
  | 104 => ⟨S1x1024x512, .f32⟩
  | 105 => ⟨S1024x512, .f32⟩
  | 106 => ⟨S512x1024, .f32⟩
  | 107 => ⟨S2048x1024, .f32⟩
  | 108 => ⟨S2048x1, .f32⟩
  | 109 => ⟨S2048x1024, .f32⟩
  | 110 => ⟨S2048x1024, .f32⟩
  | 111 => ⟨S2048x1024, .f32⟩
  | 112 => ⟨S_, .i32⟩
  | 113 => ⟨S2048x2, .i32⟩
  | 114 => ⟨S2048x2, .i1⟩
  | 115 => ⟨S2048x2, .f32⟩
  | 116 => ⟨S2048x2, .f32⟩
  | 117 => ⟨S_, .f32⟩
  | 118 => ⟨S2048, .f32⟩
  | 119 => ⟨S1x512x1024, .f32⟩
  | 120 => ⟨S512x1024, .f32⟩
  | 121 => ⟨S1024x512, .f32⟩
  | 122 => ⟨S2048x512, .f32⟩
  | 123 => ⟨S2048x512, .f32⟩
  | 124 => ⟨S2048x512, .f32⟩
  | 125 => ⟨S_, .f32⟩
  | 126 => ⟨S2048x512, .f32⟩
  | 127 => ⟨S2048x512, .f32⟩
  | _ => ⟨S2048x1024, .f32⟩

abbrev hbmTy0_2 (i : Nat) : BufTy := match i % 128 with
  | 0 => ⟨S_, .f32⟩
  | 1 => ⟨S2048x512, .f32⟩
  | 2 => ⟨S2048x512, .f32⟩
  | 3 => ⟨S2048x512, .f32⟩
  | 4 => ⟨S1x1024x512, .f32⟩
  | 5 => ⟨S1024x512, .f32⟩
  | 6 => ⟨S512x1024, .f32⟩
  | 7 => ⟨S2048x1024, .f32⟩
  | 8 => ⟨S2048x1, .f32⟩
  | 9 => ⟨S2048x1024, .f32⟩
  | 10 => ⟨S2048x1024, .f32⟩
  | 11 => ⟨S2048x1024, .f32⟩
  | 12 => ⟨S_, .i32⟩
  | 13 => ⟨S2048x2, .i32⟩
  | 14 => ⟨S2048x2, .i1⟩
  | 15 => ⟨S2048x2, .f32⟩
  | 16 => ⟨S2048x2, .f32⟩
  | 17 => ⟨S_, .f32⟩
  | 18 => ⟨S2048, .f32⟩
  | 19 => ⟨S1x512x1024, .f32⟩
  | 20 => ⟨S512x1024, .f32⟩
  | 21 => ⟨S1024x512, .f32⟩
  | 22 => ⟨S2048x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S2048x512, .f32⟩
  | 32 => ⟨S1x1024x512, .f32⟩
  | 33 => ⟨S1024x512, .f32⟩
  | 34 => ⟨S512x1024, .f32⟩
  | 35 => ⟨S2048x1024, .f32⟩
  | 36 => ⟨S2048x1, .f32⟩
  | 37 => ⟨S2048x1024, .f32⟩
  | 38 => ⟨S2048x1024, .f32⟩
  | 39 => ⟨S2048x1024, .f32⟩
  | 40 => ⟨S_, .i32⟩
  | 41 => ⟨S2048x2, .i32⟩
  | 42 => ⟨S2048x2, .i1⟩
  | 43 => ⟨S2048x2, .f32⟩
  | 44 => ⟨S2048x2, .f32⟩
  | 45 => ⟨S_, .f32⟩
  | 46 => ⟨S2048, .f32⟩
  | 47 => ⟨S1x512x1024, .f32⟩
  | 48 => ⟨S512x1024, .f32⟩
  | 49 => ⟨S1024x512, .f32⟩
  | 50 => ⟨S2048x512, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S2048x512, .f32⟩
  | 60 => ⟨S1x1024x512, .f32⟩
  | 61 => ⟨S1024x512, .f32⟩
  | 62 => ⟨S512x1024, .f32⟩
  | 63 => ⟨S2048x1024, .f32⟩
  | 64 => ⟨S2048x1, .f32⟩
  | 65 => ⟨S2048x1024, .f32⟩
  | 66 => ⟨S2048x1024, .f32⟩
  | 67 => ⟨S2048x1024, .f32⟩
  | 68 => ⟨S_, .i32⟩
  | 69 => ⟨S2048x2, .i32⟩
  | 70 => ⟨S2048x2, .i1⟩
  | 71 => ⟨S2048x2, .f32⟩
  | 72 => ⟨S2048x2, .f32⟩
  | 73 => ⟨S_, .f32⟩
  | 74 => ⟨S2048, .f32⟩
  | 75 => ⟨S1x512x1024, .f32⟩
  | 76 => ⟨S512x1024, .f32⟩
  | 77 => ⟨S1024x512, .f32⟩
  | 78 => ⟨S2048x512, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S2048x512, .f32⟩
  | 88 => ⟨S1x1024x512, .f32⟩
  | 89 => ⟨S1024x512, .f32⟩
  | 90 => ⟨S512x1024, .f32⟩
  | 91 => ⟨S2048x1024, .f32⟩
  | 92 => ⟨S2048x1, .f32⟩
  | 93 => ⟨S2048x1024, .f32⟩
  | 94 => ⟨S2048x1024, .f32⟩
  | 95 => ⟨S2048x1024, .f32⟩
  | 96 => ⟨S_, .i32⟩
  | 97 => ⟨S2048x2, .i32⟩
  | 98 => ⟨S2048x2, .i1⟩
  | 99 => ⟨S2048x2, .f32⟩
  | 100 => ⟨S2048x2, .f32⟩
  | 101 => ⟨S_, .f32⟩
  | 102 => ⟨S2048, .f32⟩
  | 103 => ⟨S1x512x1024, .f32⟩
  | 104 => ⟨S512x1024, .f32⟩
  | 105 => ⟨S1024x512, .f32⟩
  | 106 => ⟨S2048x512, .f32⟩
  | 107 => ⟨S2048x512, .f32⟩
  | 108 => ⟨S2048x512, .f32⟩
  | 109 => ⟨S_, .f32⟩
  | 110 => ⟨S2048x512, .f32⟩
  | 111 => ⟨S2048x512, .f32⟩
  | 112 => ⟨S_, .f32⟩
  | 113 => ⟨S2048x512, .f32⟩
  | 114 => ⟨S2048x512, .f32⟩
  | 115 => ⟨S2048x512, .f32⟩
  | 116 => ⟨S1x1024x512, .f32⟩
  | 117 => ⟨S1024x512, .f32⟩
  | 118 => ⟨S512x1024, .f32⟩
  | 119 => ⟨S2048x1024, .f32⟩
  | 120 => ⟨S2048x1, .f32⟩
  | 121 => ⟨S2048x1024, .f32⟩
  | 122 => ⟨S2048x1024, .f32⟩
  | 123 => ⟨S2048x1024, .f32⟩
  | 124 => ⟨S_, .i32⟩
  | 125 => ⟨S2048x2, .i32⟩
  | 126 => ⟨S2048x2, .i1⟩
  | 127 => ⟨S2048x2, .f32⟩
  | _ => ⟨S2048x1024, .f32⟩

abbrev hbmTy0_3 (i : Nat) : BufTy := match i % 128 with
  | 0 => ⟨S2048x2, .f32⟩
  | 1 => ⟨S_, .f32⟩
  | 2 => ⟨S2048, .f32⟩
  | 3 => ⟨S1x512x1024, .f32⟩
  | 4 => ⟨S512x1024, .f32⟩
  | 5 => ⟨S1024x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S2048x512, .f32⟩
  | 16 => ⟨S1x1024x512, .f32⟩
  | 17 => ⟨S1024x512, .f32⟩
  | 18 => ⟨S512x1024, .f32⟩
  | 19 => ⟨S2048x1024, .f32⟩
  | 20 => ⟨S2048x1, .f32⟩
  | 21 => ⟨S2048x1024, .f32⟩
  | 22 => ⟨S2048x1024, .f32⟩
  | 23 => ⟨S2048x1024, .f32⟩
  | 24 => ⟨S_, .i32⟩
  | 25 => ⟨S2048x2, .i32⟩
  | 26 => ⟨S2048x2, .i1⟩
  | 27 => ⟨S2048x2, .f32⟩
  | 28 => ⟨S2048x2, .f32⟩
  | 29 => ⟨S_, .f32⟩
  | 30 => ⟨S2048, .f32⟩
  | 31 => ⟨S1x512x1024, .f32⟩
  | 32 => ⟨S512x1024, .f32⟩
  | 33 => ⟨S1024x512, .f32⟩
  | 34 => ⟨S2048x512, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S_, .f32⟩
  | 41 => ⟨S2048x512, .f32⟩
  | 42 => ⟨S2048x512, .f32⟩
  | 43 => ⟨S2048x512, .f32⟩
  | 44 => ⟨S1x1024x512, .f32⟩
  | 45 => ⟨S1024x512, .f32⟩
  | 46 => ⟨S512x1024, .f32⟩
  | 47 => ⟨S2048x1024, .f32⟩
  | 48 => ⟨S2048x1, .f32⟩
  | 49 => ⟨S2048x1024, .f32⟩
  | 50 => ⟨S2048x1024, .f32⟩
  | 51 => ⟨S2048x1024, .f32⟩
  | 52 => ⟨S_, .i32⟩
  | 53 => ⟨S2048x2, .i32⟩
  | 54 => ⟨S2048x2, .i1⟩
  | 55 => ⟨S2048x2, .f32⟩
  | 56 => ⟨S2048x2, .f32⟩
  | 57 => ⟨S_, .f32⟩
  | 58 => ⟨S2048, .f32⟩
  | 59 => ⟨S1x512x1024, .f32⟩
  | 60 => ⟨S512x1024, .f32⟩
  | 61 => ⟨S1024x512, .f32⟩
  | 62 => ⟨S2048x512, .f32⟩
  | 63 => ⟨S2048x512, .f32⟩
  | 64 => ⟨S2048x512, .f32⟩
  | 65 => ⟨S_, .f32⟩
  | 66 => ⟨S2048x512, .f32⟩
  | 67 => ⟨S2048x512, .f32⟩
  | 68 => ⟨S_, .f32⟩
  | 69 => ⟨S2048x512, .f32⟩
  | 70 => ⟨S2048x512, .f32⟩
  | 71 => ⟨S2048x512, .f32⟩
  | 72 => ⟨S1x1024x512, .f32⟩
  | 73 => ⟨S1024x512, .f32⟩
  | 74 => ⟨S512x1024, .f32⟩
  | 75 => ⟨S2048x1024, .f32⟩
  | 76 => ⟨S2048x1, .f32⟩
  | 77 => ⟨S2048x1024, .f32⟩
  | 78 => ⟨S2048x1024, .f32⟩
  | 79 => ⟨S2048x1024, .f32⟩
  | 80 => ⟨S_, .i32⟩
  | 81 => ⟨S2048x2, .i32⟩
  | 82 => ⟨S2048x2, .i1⟩
  | 83 => ⟨S2048x2, .f32⟩
  | 84 => ⟨S2048x2, .f32⟩
  | 85 => ⟨S_, .f32⟩
  | 86 => ⟨S2048, .f32⟩
  | 87 => ⟨S1x512x1024, .f32⟩
  | 88 => ⟨S512x1024, .f32⟩
  | 89 => ⟨S1024x512, .f32⟩
  | 90 => ⟨S2048x512, .f32⟩
  | 91 => ⟨S2048x512, .f32⟩
  | 92 => ⟨S2048x512, .f32⟩
  | 93 => ⟨S_, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S2048x512, .f32⟩
  | 100 => ⟨S1x1024x512, .f32⟩
  | 101 => ⟨S1024x512, .f32⟩
  | 102 => ⟨S512x1024, .f32⟩
  | 103 => ⟨S2048x1024, .f32⟩
  | 104 => ⟨S2048x1, .f32⟩
  | 105 => ⟨S2048x1024, .f32⟩
  | 106 => ⟨S2048x1024, .f32⟩
  | 107 => ⟨S2048x1024, .f32⟩
  | 108 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_values : Ref sig .tc := ⟨.hbm, 35, rfl⟩
abbrev main_indices : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_7 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_8 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_9 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_10 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_c_11 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_12 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_c_13 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_14 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_call6_v0 : Ref sig .tc := ⟨.hbm, 195, rfl⟩
abbrev main_call6_v1 : Ref sig .tc := ⟨.hbm, 196, rfl⟩
abbrev main_call6_cst : Ref sig .tc := ⟨.hbm, 197, rfl⟩
abbrev main_call6_v2 : Ref sig .tc := ⟨.hbm, 198, rfl⟩
abbrev main_call6_v3 : Ref sig .tc := ⟨.hbm, 199, rfl⟩
abbrev main_call6_cst_0 : Ref sig .tc := ⟨.hbm, 200, rfl⟩
abbrev main_call6_v4 : Ref sig .tc := ⟨.hbm, 201, rfl⟩
abbrev main_call6_v5 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_c_15 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_16 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_call7_v0 : Ref sig .tc := ⟨.hbm, 223, rfl⟩
abbrev main_call7_v1 : Ref sig .tc := ⟨.hbm, 224, rfl⟩
abbrev main_call7_cst : Ref sig .tc := ⟨.hbm, 225, rfl⟩
abbrev main_call7_v2 : Ref sig .tc := ⟨.hbm, 226, rfl⟩
abbrev main_call7_v3 : Ref sig .tc := ⟨.hbm, 227, rfl⟩
abbrev main_call7_cst_0 : Ref sig .tc := ⟨.hbm, 228, rfl⟩
abbrev main_call7_v4 : Ref sig .tc := ⟨.hbm, 229, rfl⟩
abbrev main_call7_v5 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_c_17 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_cst_18 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_call8_v0 : Ref sig .tc := ⟨.hbm, 251, rfl⟩
abbrev main_call8_v1 : Ref sig .tc := ⟨.hbm, 252, rfl⟩
abbrev main_call8_cst : Ref sig .tc := ⟨.hbm, 253, rfl⟩
abbrev main_call8_v2 : Ref sig .tc := ⟨.hbm, 254, rfl⟩
abbrev main_call8_v3 : Ref sig .tc := ⟨.hbm, 255, rfl⟩
abbrev main_call8_cst_0 : Ref sig .tc := ⟨.hbm, 256, rfl⟩
abbrev main_call8_v4 : Ref sig .tc := ⟨.hbm, 257, rfl⟩
abbrev main_call8_v5 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_c_19 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_cst_20 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_call9_v0 : Ref sig .tc := ⟨.hbm, 279, rfl⟩
abbrev main_call9_v1 : Ref sig .tc := ⟨.hbm, 280, rfl⟩
abbrev main_call9_cst : Ref sig .tc := ⟨.hbm, 281, rfl⟩
abbrev main_call9_v2 : Ref sig .tc := ⟨.hbm, 282, rfl⟩
abbrev main_call9_v3 : Ref sig .tc := ⟨.hbm, 283, rfl⟩
abbrev main_call9_cst_0 : Ref sig .tc := ⟨.hbm, 284, rfl⟩
abbrev main_call9_v4 : Ref sig .tc := ⟨.hbm, 285, rfl⟩
abbrev main_call9_v5 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_c_21 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_cst_22 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_call10_v0 : Ref sig .tc := ⟨.hbm, 307, rfl⟩
abbrev main_call10_v1 : Ref sig .tc := ⟨.hbm, 308, rfl⟩
abbrev main_call10_cst : Ref sig .tc := ⟨.hbm, 309, rfl⟩
abbrev main_call10_v2 : Ref sig .tc := ⟨.hbm, 310, rfl⟩
abbrev main_call10_v3 : Ref sig .tc := ⟨.hbm, 311, rfl⟩
abbrev main_call10_cst_0 : Ref sig .tc := ⟨.hbm, 312, rfl⟩
abbrev main_call10_v4 : Ref sig .tc := ⟨.hbm, 313, rfl⟩
abbrev main_call10_v5 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_c_23 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_cst_24 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_call11_v0 : Ref sig .tc := ⟨.hbm, 335, rfl⟩
abbrev main_call11_v1 : Ref sig .tc := ⟨.hbm, 336, rfl⟩
abbrev main_call11_cst : Ref sig .tc := ⟨.hbm, 337, rfl⟩
abbrev main_call11_v2 : Ref sig .tc := ⟨.hbm, 338, rfl⟩
abbrev main_call11_v3 : Ref sig .tc := ⟨.hbm, 339, rfl⟩
abbrev main_call11_cst_0 : Ref sig .tc := ⟨.hbm, 340, rfl⟩
abbrev main_call11_v4 : Ref sig .tc := ⟨.hbm, 341, rfl⟩
abbrev main_call11_v5 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_c_25 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_cst_26 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_call12_v0 : Ref sig .tc := ⟨.hbm, 363, rfl⟩
abbrev main_call12_v1 : Ref sig .tc := ⟨.hbm, 364, rfl⟩
abbrev main_call12_cst : Ref sig .tc := ⟨.hbm, 365, rfl⟩
abbrev main_call12_v2 : Ref sig .tc := ⟨.hbm, 366, rfl⟩
abbrev main_call12_v3 : Ref sig .tc := ⟨.hbm, 367, rfl⟩
abbrev main_call12_cst_0 : Ref sig .tc := ⟨.hbm, 368, rfl⟩
abbrev main_call12_v4 : Ref sig .tc := ⟨.hbm, 369, rfl⟩
abbrev main_call12_v5 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_c_27 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_cst_28 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_call13_v0 : Ref sig .tc := ⟨.hbm, 391, rfl⟩
abbrev main_call13_v1 : Ref sig .tc := ⟨.hbm, 392, rfl⟩
abbrev main_call13_cst : Ref sig .tc := ⟨.hbm, 393, rfl⟩
abbrev main_call13_v2 : Ref sig .tc := ⟨.hbm, 394, rfl⟩
abbrev main_call13_v3 : Ref sig .tc := ⟨.hbm, 395, rfl⟩
abbrev main_call13_cst_0 : Ref sig .tc := ⟨.hbm, 396, rfl⟩
abbrev main_call13_v4 : Ref sig .tc := ⟨.hbm, 397, rfl⟩
abbrev main_call13_v5 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_c_29 : Ref sig .tc := ⟨.hbm, 408, rfl⟩
abbrev main_v257 : Ref sig .tc := ⟨.hbm, 409, rfl⟩
abbrev main_v258 : Ref sig .tc := ⟨.hbm, 410, rfl⟩
abbrev main_v259 : Ref sig .tc := ⟨.hbm, 411, rfl⟩
abbrev main_v260 : Ref sig .tc := ⟨.hbm, 412, rfl⟩
abbrev main_cst_30 : Ref sig .tc := ⟨.hbm, 413, rfl⟩
abbrev main_v261 : Ref sig .tc := ⟨.hbm, 414, rfl⟩
abbrev main_v262 : Ref sig .tc := ⟨.hbm, 415, rfl⟩
abbrev main_v263 : Ref sig .tc := ⟨.hbm, 416, rfl⟩
abbrev main_v264 : Ref sig .tc := ⟨.hbm, 417, rfl⟩
abbrev main_v265 : Ref sig .tc := ⟨.hbm, 418, rfl⟩
abbrev main_call14_v0 : Ref sig .tc := ⟨.hbm, 419, rfl⟩
abbrev main_call14_v1 : Ref sig .tc := ⟨.hbm, 420, rfl⟩
abbrev main_call14_cst : Ref sig .tc := ⟨.hbm, 421, rfl⟩
abbrev main_call14_v2 : Ref sig .tc := ⟨.hbm, 422, rfl⟩
abbrev main_call14_v3 : Ref sig .tc := ⟨.hbm, 423, rfl⟩
abbrev main_call14_cst_0 : Ref sig .tc := ⟨.hbm, 424, rfl⟩
abbrev main_call14_v4 : Ref sig .tc := ⟨.hbm, 425, rfl⟩
abbrev main_call14_v5 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_v273 : Ref sig .tc := ⟨.hbm, 434, rfl⟩
abbrev main_v274 : Ref sig .tc := ⟨.hbm, 435, rfl⟩
abbrev main_c_31 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_cst_32 : Ref sig .tc := ⟨.hbm, 441, rfl⟩
abbrev main_v279 : Ref sig .tc := ⟨.hbm, 442, rfl⟩
abbrev main_v280 : Ref sig .tc := ⟨.hbm, 443, rfl⟩
abbrev main_v281 : Ref sig .tc := ⟨.hbm, 444, rfl⟩
abbrev main_v282 : Ref sig .tc := ⟨.hbm, 445, rfl⟩
abbrev main_v283 : Ref sig .tc := ⟨.hbm, 446, rfl⟩
abbrev main_call15_v0 : Ref sig .tc := ⟨.hbm, 447, rfl⟩
abbrev main_call15_v1 : Ref sig .tc := ⟨.hbm, 448, rfl⟩
abbrev main_call15_cst : Ref sig .tc := ⟨.hbm, 449, rfl⟩
abbrev main_call15_v2 : Ref sig .tc := ⟨.hbm, 450, rfl⟩
abbrev main_call15_v3 : Ref sig .tc := ⟨.hbm, 451, rfl⟩
abbrev main_call15_cst_0 : Ref sig .tc := ⟨.hbm, 452, rfl⟩
abbrev main_call15_v4 : Ref sig .tc := ⟨.hbm, 453, rfl⟩
abbrev main_call15_v5 : Ref sig .tc := ⟨.hbm, 454, rfl⟩
abbrev main_v284 : Ref sig .tc := ⟨.hbm, 455, rfl⟩
abbrev main_v285 : Ref sig .tc := ⟨.hbm, 456, rfl⟩
abbrev main_v286 : Ref sig .tc := ⟨.hbm, 457, rfl⟩
abbrev main_v287 : Ref sig .tc := ⟨.hbm, 458, rfl⟩
abbrev main_v288 : Ref sig .tc := ⟨.hbm, 459, rfl⟩
abbrev main_v289 : Ref sig .tc := ⟨.hbm, 460, rfl⟩
abbrev main_v290 : Ref sig .tc := ⟨.hbm, 461, rfl⟩
abbrev main_v291 : Ref sig .tc := ⟨.hbm, 462, rfl⟩
abbrev main_v292 : Ref sig .tc := ⟨.hbm, 463, rfl⟩
abbrev main_c_33 : Ref sig .tc := ⟨.hbm, 464, rfl⟩
abbrev main_v293 : Ref sig .tc := ⟨.hbm, 465, rfl⟩
abbrev main_v294 : Ref sig .tc := ⟨.hbm, 466, rfl⟩
abbrev main_v295 : Ref sig .tc := ⟨.hbm, 467, rfl⟩
abbrev main_v296 : Ref sig .tc := ⟨.hbm, 468, rfl⟩
abbrev main_cst_34 : Ref sig .tc := ⟨.hbm, 469, rfl⟩
abbrev main_v297 : Ref sig .tc := ⟨.hbm, 470, rfl⟩
abbrev main_v298 : Ref sig .tc := ⟨.hbm, 471, rfl⟩
abbrev main_v299 : Ref sig .tc := ⟨.hbm, 472, rfl⟩
abbrev main_v300 : Ref sig .tc := ⟨.hbm, 473, rfl⟩
abbrev main_v301 : Ref sig .tc := ⟨.hbm, 474, rfl⟩
abbrev main_call16_v0 : Ref sig .tc := ⟨.hbm, 475, rfl⟩
abbrev main_call16_v1 : Ref sig .tc := ⟨.hbm, 476, rfl⟩
abbrev main_call16_cst : Ref sig .tc := ⟨.hbm, 477, rfl⟩
abbrev main_call16_v2 : Ref sig .tc := ⟨.hbm, 478, rfl⟩
abbrev main_call16_v3 : Ref sig .tc := ⟨.hbm, 479, rfl⟩
abbrev main_call16_cst_0 : Ref sig .tc := ⟨.hbm, 480, rfl⟩
abbrev main_call16_v4 : Ref sig .tc := ⟨.hbm, 481, rfl⟩
abbrev main_call16_v5 : Ref sig .tc := ⟨.hbm, 482, rfl⟩
abbrev main_v302 : Ref sig .tc := ⟨.hbm, 483, rfl⟩
abbrev main_v303 : Ref sig .tc := ⟨.hbm, 484, rfl⟩
abbrev main_v304 : Ref sig .tc := ⟨.hbm, 485, rfl⟩
abbrev main_v305 : Ref sig .tc := ⟨.hbm, 486, rfl⟩
abbrev main_v306 : Ref sig .tc := ⟨.hbm, 487, rfl⟩
abbrev main_v307 : Ref sig .tc := ⟨.hbm, 488, rfl⟩
abbrev main_v308 : Ref sig .tc := ⟨.hbm, 489, rfl⟩
abbrev main_v309 : Ref sig .tc := ⟨.hbm, 490, rfl⟩
abbrev main_v310 : Ref sig .tc := ⟨.hbm, 491, rfl⟩
abbrev main_v311 : Ref sig .tc := ⟨.hbm, 492, rfl⟩

abbrev nD : Nat := 1
abbrev τ : Topo := Topo.v7x

variable {F : FTy → Type} [FloatOps F]
-- ==== Proof.KernelArrays.lean ====
module

public import proofs.«01_k».proof.Proof.Gen.KernelIdeal.Value
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem Idealize.ShloMosaic.StableHlo

/-! # The stacked weights the host lays out before the region, and the blocks of them a point reads -/

namespace Cert.KernelIdeal.Moe

open Cert.KernelIdeal Cert.KernelIdeal.Gen

section

variable {F : FTy → Type} [FloatOps F] (m : (ℓ : Loc nD τ sig) → Buf (Elt F) ℓ) (c : Dev nD)

/-- The up-projections of the experts followed by two more matrices. -/
def joined (x : Vec F S16x512x1024 .f32) (y : Vec F S2x512x1024 .f32) : Vec F S18x512x1024 .f32 :=
  concatenate S18x512x1024 0 [⟨S16x512x1024, x⟩, ⟨S2x512x1024, y⟩] concatenates_S16x512x1024_S2x512x1024_S18x512x1024_d0

/-- The stacked up-projections: the sixteen experts', then the shared expert's rows in two halves. -/
def stackedUp : Vec F S18x512x1024 .f32 :=
  joined (m ((c : Thread nD τ).loc main_arg1))
    (shapeCast S2x512x1024 (m ((c : Thread nD τ).loc main_arg3) : Vec F S1024x1024 .f32) shapeCasts_S1024x1024_S2x512x1024)

/-- The stacked down-projections: the sixteen experts', then the shared expert's columns in two halves. -/
def stackedDown : Vec F S18x1024x512 .f32 :=
  concatenate S18x1024x512 0 [⟨S16x1024x512, (m ((c : Thread nD τ).loc main_arg2) : Vec F S16x1024x512 .f32)⟩,
    ⟨S2x1024x512, concatenate S2x1024x512 0
      [⟨S1x1024x512, broadcastInDim S1x1024x512 ![1, 2] bcast_S1024x512_S1x1024x512_1_2
        (extractStridedSlice S1024x512 ![0, 0] (m ((c : Thread nD τ).loc main_arg4) : Vec F S1024x1024 .f32) slices_S1024x1024_S1024x512_0_0)⟩,
       ⟨S1x1024x512, broadcastInDim S1x1024x512 ![1, 2] bcast_S1024x512_S1x1024x512_1_2
        (extractStridedSlice S1024x512 ![0, 512] (m ((c : Thread nD τ).loc main_arg4) : Vec F S1024x1024 .f32) slices_S1024x1024_S1024x512_0_512)⟩]
      concatenates_S1x1024x512_S1x1024x512_S2x1024x512_d0⟩]
    concatenates_S16x1024x512_S2x1024x512_S18x1024x512_d0

/-- The region finds the stacked up-projections. -/
theorem V_up : V m c main_v1 = stackedUp m c := by
  dsimp only [V, hostOps0]
  after_results_simp
  rfl

/-- The region finds the stacked down-projections. -/
theorem V_down : V m c main_v7 = stackedDown m c := by
  dsimp only [V, hostOps0]
  after_results_simp
  rfl

/-- The grid's coordinate at point `t`. -/
theorem coord (t : Fin cfg0.N) : (grid0.coords t 0).val = t.val := by
  have e : (grid0.coords t 0).val = t.val / 1 % 18 := Pipeline.Grid.coords_val t 0 (by decide) rfl
  have h := lt_of_lt_of_eq t.isLt (show cfg0.N = 18 from N_0)
  omega

/-- Every point reads all tokens. -/
theorem iblk_token (t : Fin cfg0.N) : iblk m c 0 t = m ((c : Thread nD τ).loc main_arg0) := by
  rw [← V_main_arg0 m c]
  funext y
  refine congrArg (V m c main_arg0) (funext fun a => ?_)
  match a with
  | ⟨0, _⟩ => exact Fin.ext (show 0 * 2048 + 1 * (y (0 : Fin 2)).val = (y (0 : Fin 2)).val by omega)
  | ⟨1, _⟩ => exact Fin.ext (show 0 * 1024 + 1 * (y (1 : Fin 2)).val = (y (1 : Fin 2)).val by omega)

/-- Every point reads the whole gate. -/
theorem iblk_gate (t : Fin cfg0.N) : iblk m c 1 t = m ((c : Thread nD τ).loc main_arg5) := by
  rw [← V_main_arg5 m c]
  funext y
  refine congrArg (V m c main_arg5) (funext fun a => ?_)
  match a with
  | ⟨0, _⟩ => exact Fin.ext (show 0 * 16 + 1 * (y (0 : Fin 2)).val = (y (0 : Fin 2)).val by omega)
  | ⟨1, _⟩ => exact Fin.ext (show 0 * 1024 + 1 * (y (1 : Fin 2)).val = (y (1 : Fin 2)).val by omega)

/-- The word of a grid coordinate is the coordinate. -/
theorem coord_word (t : Fin cfg0.N) : (BitVec.ofNat 32 (grid0.coords t 0).val).toNat = t.val := by
  have h := lt_of_lt_of_eq t.isLt (show cfg0.N = 18 from N_0)
  rw [coord, BitVec.toNat_ofNat, Nat.mod_eq_of_lt (by omega)]

/-- Point `e` reads the up-projection stacked at `e`. -/
theorem iblk_up (t : Fin cfg0.N) (e : Fin 18) (he : t.val = e.val) (f : Fin 512) (k : Fin 1024) :
    iblk m c 2 t (ix3 (0 : Fin 1) f k) = stackedUp m c (ix3 e f k) := by
  rw [← V_up m c]
  refine congrArg (V m c main_v1) (funext fun a => ?_)
  have hc := coord_word t
  match a with
  | ⟨0, _⟩ => exact Fin.ext (show (BitVec.ofNat 32 (grid0.coords t 0).val).toNat * 1 + 1 * 0 = e.val by omega)
  | ⟨1, _⟩ => exact Fin.ext (show 0 * 512 + 1 * f.val = f.val by omega)
  | ⟨2, _⟩ => exact Fin.ext (show 0 * 1024 + 1 * k.val = k.val by omega)

/-- Point `e` reads the down-projection stacked at `e`. -/
theorem iblk_down (t : Fin cfg0.N) (e : Fin 18) (he : t.val = e.val) (d : Fin 1024) (f : Fin 512) :
    iblk m c 3 t (ix3 (0 : Fin 1) d f) = stackedDown m c (ix3 e d f) := by
  rw [← V_down m c]
  refine congrArg (V m c main_v7) (funext fun a => ?_)
  have hc := coord_word t
  match a with
  | ⟨0, _⟩ => exact Fin.ext (show (BitVec.ofNat 32 (grid0.coords t 0).val).toNat * 1 + 1 * 0 = e.val by omega)
  | ⟨1, _⟩ => exact Fin.ext (show 0 * 1024 + 1 * d.val = d.val by omega)
  | ⟨2, _⟩ => exact Fin.ext (show 0 * 512 + 1 * f.val = f.val by omega)

end

section

variable (m : (ℓ : Loc nD τ sig) → Buf (Elt Ideal) ℓ) (c : Dev nD)

/-- Below sixteen the joined array is the first. -/
theorem joined_left (x : Vec Ideal S16x512x1024 .f32) (y : Vec Ideal S2x512x1024 .f32) (e : Fin 16) (f : Fin 512) (k : Fin 1024) :
    joined x y (ix3 (e.castAdd 2 : Fin 18) f k) = (x (ix3 e f k) : EReal) := by
  pointwise [joined]
  rw [dif_pos (show (e.castAdd 2 : Fin 18).val < 16 from e.isLt)]
  rfl

/-- From sixteen on the joined array is the second. -/
theorem joined_right (x : Vec Ideal S16x512x1024 .f32) (y : Vec Ideal S2x512x1024 .f32) (e : Fin 2) (f : Fin 512) (k : Fin 1024) :
    joined x y (ix3 (e.natAdd 16 : Fin 18) f k) = (y (ix3 e f k) : EReal) := by
  pointwise [joined]
  rw [dif_neg (show ¬(e.natAdd 16 : Fin 18).val < 16 from not_lt.mpr (Nat.le_add_right 16 e.val))]
  exact congrArg (fun a : Fin 2 => y (ix3 a f k)) (Fin.ext (Nat.add_sub_cancel_left 16 e.val))

/-- A matrix of 1024 rows re-indexed as two of 512. -/
theorem halves_apply (x : Vec Ideal S1024x1024 .f32) (e : Fin 2) (f : Fin 512) (k : Fin 1024) (r : Fin 1024)
    (hr : r.val = e.val * 512 + f.val) :
    shapeCast S2x512x1024 x shapeCasts_S1024x1024_S2x512x1024 (ix3 e f k) = x (ix2 r k) := by
  refine shapeCast_apply x _ _ _ ?_
  rw [Shape.rowMajor_val_three, Shape.rowMajor_val_two]
  show r.val * 1024 + k.val = (e.val * 512 + f.val) * 1024 + k.val
  rw [hr]

/-- Below sixteen stands the expert's up-projection. -/
theorem stackedUp_routed (e : Fin 16) (f : Fin 512) (k : Fin 1024) :
    stackedUp m c (ix3 (e.castAdd 2 : Fin 18) f k) = (m ((c : Thread nD τ).loc main_arg1) : Vec Ideal S16x512x1024 .f32) (ix3 e f k) :=
  joined_left _ _ e f k

/-- At sixteen stand the shared expert's first 512 rows. -/
theorem stackedUp_first (f : Fin 512) (k : Fin 1024) :
    stackedUp m c (ix3 ((0 : Fin 2).natAdd 16 : Fin 18) f k)
      = (m ((c : Thread nD τ).loc main_arg3) : Vec Ideal S1024x1024 .f32) (ix2 (f.castAdd 512 : Fin 1024) k) :=
  (joined_right _ _ 0 f k).trans (halves_apply _ 0 f k _ (Nat.zero_add f.val).symm)

/-- At seventeen stand the shared expert's last 512 rows. -/
theorem stackedUp_second (f : Fin 512) (k : Fin 1024) :
    stackedUp m c (ix3 ((1 : Fin 2).natAdd 16 : Fin 18) f k)
      = (m ((c : Thread nD τ).loc main_arg3) : Vec Ideal S1024x1024 .f32) (ix2 (f.natAdd 512 : Fin 1024) k) :=
  (joined_right _ _ 1 f k).trans (halves_apply _ 1 f k _ rfl)

/-- Below sixteen stands the expert's down-projection. -/
theorem stackedDown_routed (e : Fin 16) (d : Fin 1024) (f : Fin 512) :
    stackedDown m c (ix3 (e.castAdd 2 : Fin 18) d f) = (m ((c : Thread nD τ).loc main_arg2) : Vec Ideal S16x1024x512 .f32) (ix3 e d f) := by
  pointwise [stackedDown]
  rw [dif_pos (show (e.castAdd 2 : Fin 18).val < 16 from e.isLt)]
  rfl

/-- At sixteen stand the shared expert's first 512 columns. -/
theorem stackedDown_first (d : Fin 1024) (f : Fin 512) :
    stackedDown m c (ix3 (16 : Fin 18) d f) = (m ((c : Thread nD τ).loc main_arg4) : Vec Ideal S1024x1024 .f32) (ix2 d (f.castAdd 512 : Fin 1024)) := by
  pointwise [stackedDown]
  rfl

/-- At seventeen stand the shared expert's last 512 columns. -/
theorem stackedDown_second (d : Fin 1024) (f : Fin 512) :
    stackedDown m c (ix3 (17 : Fin 18) d f) = (m ((c : Thread nD τ).loc main_arg4) : Vec Ideal S1024x1024 .f32) (ix2 d (f.natAdd 512 : Fin 1024)) := by
  pointwise [stackedDown]
  rfl

end

end Cert.KernelIdeal.Moe

end
-- ==== Proof.KernelCases.lean ====
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

/-! # What one point of the grid leaves in the output block and in the scratch table -/

namespace Cert.KernelIdeal.Moe

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- At a point after the first the output block gains the point's weighted expert output. -/
theorem out_later (c : Dev nD) (i : grid0.Coords) (a1 : Memref sig .tc .vmem S2048x1024 .f32) (h1 : a1.IsWhole)
    (a2 : Memref sig .tc .vmem S16x1024 .f32) (h2 : a2.IsWhole) (a3 : Memref sig .tc .vmem S1x512x1024 .f32) (h3 : a3.IsWhole)
    (a4 : Memref sig .tc .vmem S1x1024x512 .f32) (h4 : a4.IsWhole) (a5 : Memref sig .tc .vmem S2048x1024 .f32) (h5 : a5.IsWhole)
    (a6 : Memref sig .tc .vmem S2048x32 .f32) (h6 : a6.IsWhole) (hc0 : ¬cond0_0 i) (hc1 : ¬cond0_1 i)
    (x0 : Vec F S2048x1024 .f32) (x1 : Vec F S16x1024 .f32) (x2 : Vec F S1x512x1024 .f32) (x3 : Vec F S1x1024x512 .f32)
    (xo : Vec F S2048x1024 .f32) (xs : Vec F S2048x32 .f32) :
    out0_B_4 c i a1 h1 a2 h2 a3 h3 a4 h4 a5 h5 a6 h6 hc0 hc1 x0 x1 x2 x3 xo xs = k0_pay3 i x0 x2 x3 xs xo := by
  unfold out0_B_4
  rw [View.read_writes_eq_canon _ _ _ (cover0_B_4 c i a1 h1 a2 h2 a3 h3 a4 h4 a5 h5 a6 h6 hc0 hc1 x0 x1 x2 x3 xo xs)]
  unfold kernelRun0_B
  dsimp only
  sl_unfold_words
  rw [View.canon_unit_zero zero2]
  simp only [View.readAt_eq_ld, h1.read_unread, h3.read_unread, h4.read_unread, h5.read_unread, h6.read_unread,
    View.ld_unit_zero (S := S2048x1024) zero2, View.ld_unit_zero (S := S1x512x1024) zero3,
    View.ld_unit_zero (S := S1x1024x512) zero3, View.ld_unit_zero (S := S2048x32) zero2]

/-- The scratch table: gating weights in columns 0 to 15, ones in columns 16 to 31, as one read-back of the two stores. -/
def table (x : Vec F S2048x1024 .f32) (g : Vec F S16x1024 .f32) : Vec F S2048x32 .f32 :=
  View.canon [⟨Rect.unit (s := S2048x32) ![0, 16] S2048x16.size inb_S2048x32_S2048x16_0_16, k0_pay1 (k0_pay5 (F := F))⟩,
    ⟨Rect.unit (s := S2048x32) ![0, 0] S2048x16.size inb_S2048x32_S2048x16_0_0, k0_pay4 x g⟩]

/-- At the first point the scratch is left holding the table. -/
theorem scratch_first (c : Dev nD) (i : grid0.Coords) (a1 : Memref sig .tc .vmem S2048x1024 .f32) (h1 : a1.IsWhole)
    (a2 : Memref sig .tc .vmem S16x1024 .f32) (h2 : a2.IsWhole) (a3 : Memref sig .tc .vmem S1x512x1024 .f32) (h3 : a3.IsWhole)
    (a4 : Memref sig .tc .vmem S1x1024x512 .f32) (h4 : a4.IsWhole) (a5 : Memref sig .tc .vmem S2048x1024 .f32) (h5 : a5.IsWhole)
    (a6 : Memref sig .tc .vmem S2048x32 .f32) (h6 : a6.IsWhole) (hc0 : cond0_0 i) (hc1 : cond0_1 i)
    (x0 : Vec F S2048x1024 .f32) (x1 : Vec F S16x1024 .f32) (x2 : Vec F S1x512x1024 .f32) (x3 : Vec F S1x1024x512 .f32) :
    sout0_A_0 c i a1 h1 a2 h2 a3 h3 a4 h4 a5 h5 a6 h6 hc0 hc1 x0 x1 x2 x3 = table x0 x1 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  simp only [View.readAt_eq_ld, h1.read_unread, h2.read_unread,
    View.ld_unit_zero (S := S2048x1024) zero2, View.ld_unit_zero (S := S16x1024) zero2]
  rfl

/-- At the first point the output block is left holding the first weighted expert output over zeros. -/
theorem out_first (c : Dev nD) (i : grid0.Coords) (a1 : Memref sig .tc .vmem S2048x1024 .f32) (h1 : a1.IsWhole)
    (a2 : Memref sig .tc .vmem S16x1024 .f32) (h2 : a2.IsWhole) (a3 : Memref sig .tc .vmem S1x512x1024 .f32) (h3 : a3.IsWhole)
    (a4 : Memref sig .tc .vmem S1x1024x512 .f32) (h4 : a4.IsWhole) (a5 : Memref sig .tc .vmem S2048x1024 .f32) (h5 : a5.IsWhole)
    (a6 : Memref sig .tc .vmem S2048x32 .f32) (h6 : a6.IsWhole) (hc0 : cond0_0 i) (hc1 : cond0_1 i)
    (x0 : Vec F S2048x1024 .f32) (x1 : Vec F S16x1024 .f32) (x2 : Vec F S1x512x1024 .f32) (x3 : Vec F S1x1024x512 .f32) :
    out0_A_4 c i a1 h1 a2 h2 a3 h3 a4 h4 a5 h5 a6 h6 hc0 hc1 x0 x1 x2 x3
      = k0_pay3 i x0 x2 x3 (table x0 x1) (k0_pay2 (F := F)) := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_cons_unit_zero (S := S2048x1024) zero2, View.readCov_unit_zero (S := S2048x1024) _ zero2]
  simp only [View.readAt_eq_ld, h1.read_unread, h2.read_unread, h3.read_unread, h4.read_unread,
    View.ld_unit_zero (S := S2048x1024) zero2, View.ld_unit_zero (S := S16x1024) zero2,
    View.ld_unit_zero (S := S1x512x1024) zero3, View.ld_unit_zero (S := S1x1024x512) zero3]
  rw [View.readCov_eq_canon', ← View.ld_unit_zero (S := S2048x32) zero2 inb_S2048x32_S2048x32_0_0 (table x0 x1)]
  rfl

end Cert.KernelIdeal.Moe
-- ==== Proof.Ffn.lean ====
module

public import Idealize.ShloMosaic.Lib.Pointwise

@[expose] public section

noncomputable section

/-! # One gated hidden layer, read at one token and one output feature -/

namespace Cert.Moe

open Idealize.ShloMosaic

/-- The product of token `x` with row `f` of `up`. -/
def proj {w : Nat} (x : Fin 1024 → EReal) (up : Fin w → Fin 1024 → EReal) (f : Fin w) : EReal := ∑ k : Fin 1024, x k * up f k

/-- The hidden units of token `x`, each times its own logistic, against the weights `down` of one output feature. -/
def ffn {w : Nat} (x : Fin 1024 → EReal) (up : Fin w → Fin 1024 → EReal) (down : Fin w → EReal) : EReal :=
  ∑ f : Fin w, proj x up f * Ideal.logistic (proj x up f) * down f

/-- A layer of 1024 units is the sum of its two halves. -/
theorem ffn_halves (x : Fin 1024 → EReal) (up : Fin 1024 → Fin 1024 → EReal) (down : Fin 1024 → EReal) :
    ffn x up down = ffn x (fun f : Fin 512 => up (f.castAdd 512)) (fun f => down (f.castAdd 512))
      + ffn x (fun f : Fin 512 => up (f.natAdd 512)) (fun f => down (f.natAdd 512)) :=
  Fin.sum_univ_add (a := 512) (b := 512) fun f => proj x up f * Ideal.logistic (proj x up f) * down f

end Cert.Moe

end
-- ==== Proof.TopTwo.lean ====
module

public import Idealize.ShloMosaic.Lib.SortPrefix
public import Idealize.ShloMosaic.Lib.Pointwise

@[expose] public section

/-! # The two greatest of sixteen entries, the lower position first among equals -/

namespace Cert.Moe

open Idealize.ShloMosaic

/-- `i` and `j` are the positions of the greatest and of the second greatest entry of `l`; of equal entries the one at the
    lower position comes first. -/
structure TopTwo {κ : Type} [LinearOrder κ] (l : Fin 16 → κ) (i j : Fin 16) : Prop where
  first : ∀ k, l k < l i ∨ (l k = l i ∧ i ≤ k)
  ne : j ≠ i
  second : ∀ k, k ≠ i → l k < l j ∨ (l k = l j ∧ j ≤ k)

variable {κ : Type} [LinearOrder κ]

/-- A nonempty set of positions holds one whose entry is the greatest over the set, the lowest such position. -/
theorem exists_first (l : Fin 16 → κ) (s : Finset (Fin 16)) (hs : s.Nonempty) :
    ∃ i ∈ s, ∀ k ∈ s, l k < l i ∨ (l k = l i ∧ i ≤ k) := by
  obtain ⟨a, ha, hmax⟩ := s.exists_max_image l hs
  obtain ⟨i, hi, hmin⟩ := (s.filter fun k => l k = l a).exists_min_image id ⟨a, by simp [ha]⟩
  rw [Finset.mem_filter] at hi
  refine ⟨i, hi.1, fun k hk => ?_⟩
  rcases lt_or_eq_of_le (hmax k hk) with h | h
  · exact Or.inl (hi.2 ▸ h)
  · exact Or.inr ⟨h.trans hi.2.symm, hmin k (Finset.mem_filter.mpr ⟨hk, h⟩)⟩

/-- Every table of sixteen entries has its two greatest. -/
theorem exists_topTwo (l : Fin 16 → κ) : ∃ i j, TopTwo l i j := by
  obtain ⟨i, -, hi⟩ := exists_first l Finset.univ ⟨0, Finset.mem_univ 0⟩
  obtain ⟨j, hj, hj'⟩ := exists_first l (Finset.univ.erase i) (by
    rw [← Finset.card_pos, Finset.card_erase_of_mem (Finset.mem_univ i)]; decide)
  exact ⟨i, j, fun k => hi k (Finset.mem_univ k), (Finset.mem_erase.mp hj).1,
    fun k hk => hj' k (Finset.mem_erase.mpr ⟨hk, Finset.mem_univ k⟩)⟩

/-- The same positions are the two greatest of any table that orders the positions alike. -/
theorem TopTwo.map {κ' : Type} [LinearOrder κ'] {l : Fin 16 → κ} {i j : Fin 16} (h : TopTwo l i j) (p : Fin 16 → κ')
    (hlt : ∀ a b, l a < l b → p a < p b) (heq : ∀ a b, l a = l b → p a = p b) : TopTwo p i j where
  first k := (h.first k).imp (hlt k i) fun a => ⟨heq k i a.1, a.2⟩
  ne := h.ne
  second k hk := (h.second k hk).imp (hlt k j) fun a => ⟨heq k j a.1, a.2⟩

/-- No entry is above the first. -/
theorem TopTwo.le_first {l : Fin 16 → κ} {i j : Fin 16} (h : TopTwo l i j) (k : Fin 16) : l k ≤ l i :=
  (h.first k).elim le_of_lt fun a => a.1.le

/-! ## A stable sort finds them -/

/-- Two comparators that agree on a later position against an earlier one sort an ascending list alike. -/
theorem stableSort_eq_of_later {n : Nat} (B B' : Fin n → Fin n → Bool) (h : ∀ a b, a < b → B b a = B' b a) :
    ∀ m : List (Fin n), m.Pairwise (· < ·) → stableSort B m = stableSort B' m
  | [], _ => rfl
  | a :: m, hm => by
    rw [List.pairwise_cons] at hm
    unfold stableSort
    rw [stableSort_eq_of_later B B' h m hm.2]
    exact insertBefore_congr B B' a _ fun b hb => h a b (hm.1 b ((perm_stableSort B' m).mem_iff.mp hb))

/-- So the first two positions of the stable sort by decreasing entry are the positions of the two greatest. -/
theorem TopTwo.sortedFrom {l : Fin 16 → κ} {i j : Fin 16} (h : TopTwo l i j) (B : Fin 16 → Fin 16 → Bool)
    (hB : ∀ a b, B a b = decide (l b < l a)) (r : Fin 2) :
    Idealize.ShloMosaic.sortedFrom B (r.castLE (by decide)) = ![i, j] r := by
  have hT := StrictTotalBefore.of_key_then_position (fun a b : κ => decide (b < a)) l (fun a => by simp)
    (fun a b c hab hbc => by simp only [decide_eq_true_eq] at *; exact lt_trans hbc hab)
    (fun a b => by
      simp only [decide_eq_true_eq]
      rcases lt_trichotomy a b with h | h | h
      exacts [Or.inr (Or.inr h), Or.inr (Or.inl h), Or.inl h])
  have hlast : ∀ a b : Fin 16, (l a < l b ∨ (l a = l b ∧ b ≤ a)) →
      (decide (l b < l a) || (decide (l a = l b) && decide (a < b))) = false := by
    intro a b hab
    simp only [Bool.or_eq_false_iff, Bool.and_eq_false_iff, decide_eq_false_iff_not, not_lt]
    rcases hab with hab | hab
    · exact ⟨hab.le, Or.inl hab.ne⟩
    · exact ⟨hab.1.le, Or.inr hab.2⟩
  have hsort : Idealize.ShloMosaic.sortedFrom B
      = Idealize.ShloMosaic.sortedFrom fun a b => decide (l b < l a) || (decide (l a = l b) && decide (a < b)) := by
    have e : sortPositions 16 B = sortPositions 16 _ :=
      stableSort_eq_of_later B (fun a b => decide (l b < l a) || (decide (l a = l b) && decide (a < b)))
        (fun a b hab => by simp [hB, not_lt.mpr hab.le]) _ (List.pairwise_lt_finRange 16)
    funext k
    unfold Idealize.ShloMosaic.sortedFrom
    exact List.getElem_of_eq e _
  rw [hsort]
  refine hT.sortedFrom_eq_of_prefix (by decide) ![i, j] ?_ ?_ ?_ r
  · intro a b hab
    match a, b with
    | 0, 0 => rfl
    | 1, 1 => rfl
    | 0, 1 => exact absurd hab.symm h.ne
    | 1, 0 => exact absurd hab h.ne
  · intro a b hab
    match a, b with
    | 0, 1 => exact hlast _ _ (h.first _)
    | 0, 0 => exact absurd hab (by decide)
    | 1, 1 => exact absurd hab (by decide)
    | 1, 0 => exact absurd hab (by decide)
  · intro a p hp
    match a with
    | 0 => exact hlast _ _ (h.first _)
    | 1 => exact hlast _ _ (h.second _ fun e => hp 0 e.symm)

end Cert.Moe
-- ==== Proof.Gate.lean ====
module

public import proofs.«01_k».proof.Proof.TopTwo

@[expose] public section

noncomputable section

/-! # The gating weights: two masked maxima of the logits against the two greatest logits -/

namespace Cert.Moe

open Idealize.ShloMosaic

/-- The negative infinity both programs write. -/
theorem ofBits_bot : Ideal.ofBits .f32 0xFF800000#32 = ⊥ := by simp [Ideal.ofBits, Ideal.ieee]

/-- The positive infinity the precondition compares with. -/
theorem ofBits_top : Ideal.ofBits .f32 0x7F800000#32 = ⊤ := by simp [Ideal.ofBits, Ideal.ieee]

/-! ## Exponentials relative to a real -/

/-- The exponential of `x` less the real `a`, as a real. -/
def rel (a : ℝ) (x : EReal) : ℝ := (Ideal.exp (x - (a : EReal))).toReal

theorem rel_coe (a y : ℝ) : rel a (y : EReal) = Real.exp (y - a) := by
  rw [rel, ← EReal.coe_sub, Ideal.exp_coe, EReal.toReal_coe]

theorem rel_bot (a : ℝ) : rel a ⊥ = 0 := by
  rw [rel, EReal.bot_sub, Ideal.exp_bot, EReal.toReal_zero]

/-- Below positive infinity the exponential is that real. -/
theorem exp_sub (a : ℝ) {x : EReal} (hx : x ≠ ⊤) : Ideal.exp (x - (a : EReal)) = (rel a x : EReal) := by
  induction x with
  | bot => rw [rel_bot, EReal.bot_sub, Ideal.exp_bot, EReal.coe_zero]
  | coe y => rw [rel_coe, ← EReal.coe_sub, Ideal.exp_coe]
  | top => exact absurd rfl hx

theorem rel_nonneg (a : ℝ) {x : EReal} (hx : x ≠ ⊤) : 0 ≤ rel a x := by
  induction x with
  | bot => rw [rel_bot]
  | coe y => rw [rel_coe]; exact (Real.exp_pos _).le
  | top => exact absurd rfl hx

theorem rel_self (a : ℝ) : rel a (a : EReal) = 1 := by rw [rel_coe, sub_self, Real.exp_zero]

/-- Below positive infinity it increases. -/
theorem rel_lt (a : ℝ) {x y : EReal} (hxy : x < y) (hy : y ≠ ⊤) : rel a x < rel a y := by
  induction y with
  | bot => exact absurd hxy not_lt_bot
  | top => exact absurd rfl hy
  | coe y =>
    rw [rel_coe]
    induction x with
    | bot => rw [rel_bot]; exact Real.exp_pos _
    | top => exact absurd hxy not_top_lt
    | coe x => rw [rel_coe]; exact Real.exp_lt_exp.mpr (sub_lt_sub_right (EReal.coe_lt_coe_iff.mp hxy) a)

/-- The logistic of the difference of a real and a lesser logit. -/
theorem logistic_sub (a : ℝ) {x : EReal} (hx : x ≠ ⊤) :
    Ideal.logistic ((a : EReal) - x) = (((1 + rel a x)⁻¹ : ℝ) : EReal) := by
  induction x with
  | bot => rw [rel_bot, EReal.coe_sub_bot, Ideal.logistic_top, add_zero, inv_one, EReal.coe_one]
  | coe y => rw [rel_coe, ← EReal.coe_sub, Ideal.logistic_coe, neg_sub]
  | top => exact absurd rfl hx

/-- The weight of expert `e` when `i` and `j` are the two selected experts and the first's logit is the real `a`: the logistic
    of the difference of their logits for the first, the rest to one for the second. -/
def gate (a : ℝ) (L : Fin 16 → EReal) (i j e : Fin 16) : EReal :=
  (if e = i then (((1 + rel a (L j))⁻¹ : ℝ) : EReal) else 0) + if e = j then ((1 - (1 + rel a (L j))⁻¹ : ℝ) : EReal) else 0

/-! ## The position words -/

theorem ofNat_inj {a b : Nat} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- Two position words compare equal exactly where the positions are. -/
theorem cmpi_eq_ofNat {a b : Nat} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · rw [if_neg h, beq_eq_false_iff_ne.mpr ((ofNat_inj ha hb).not.mpr h)]; rfl

/-- The widened comparison of two position words, as a float: one where they are equal, zero elsewhere. -/
theorem sitofp_eq {a b : Nat} (ha : a < 2 ^ 32) (hb : b < 2 ^ 32) :
    FloatOps.sitofp (F := Ideal) .f32 (BitVec.setWidth 32 (IntOp.cmpi .eq (BitVec.ofNat 32 a) (BitVec.ofNat 32 b)))
      = if a = b then 1 else 0 := by
  rw [cmpi_eq_ofNat ha hb]
  show (((BitVec.setWidth 32 (if a = b then 1#1 else 0#1)).toInt : ℝ) : EReal) = _
  split <;> simp

/-- The comparison bit of two position words, as a float. -/
theorem uitofp_eq {a b : Nat} (ha : a < 2 ^ 32) (hb : b < 2 ^ 32) :
    FloatOps.uitofp (F := Ideal) .f32 (IntOp.cmpi .eq (BitVec.ofNat 32 a) (BitVec.ofNat 32 b))
      = if a = b then 1 else 0 := by
  rw [cmpi_eq_ofNat ha hb]
  show ((((if a = b then 1#1 else 0#1 : BitVec 1)).toNat : ℝ) : EReal) = _
  split <;> simp

/-- A minimum of signed words over a set is the word attained there that is below all of them and below the start. -/
theorem fold_minsi {ι : Type} (f : ι → BitVec 32) (b c : BitVec 32) (s : Finset ι) (hb : c.toInt ≤ b.toInt)
    (hle : ∀ k ∈ s, c.toInt ≤ (f k).toInt) (hat : ∃ k ∈ s, f k = c) : s.fold IntOp.minsi b f = c := by
  have hm : ∀ x y : BitVec 32, (IntOp.minsi x y).toInt = min x.toInt y.toInt := by
    intro x y
    unfold IntOp.minsi
    simp only [BitVec.slt_eq_decide, decide_eq_true_eq]
    split <;> omega
  have h := Finset.fold_hom (op := IntOp.minsi) (op' := min) (s := s) (b := b) (f := f) (m := BitVec.toInt) hm
  apply BitVec.eq_of_toInt_eq
  rw [← h]
  obtain ⟨k, hk, rfl⟩ := hat
  exact le_antisymm (Finset.fold_min_le _ |>.mpr (Or.inr ⟨k, hk, le_refl _⟩)) (Finset.le_fold_min _ |>.mpr ⟨hb, hle⟩)

/-- The least position word among the entries equal to `M`, all others answering sixteen. -/
theorem fold_position (L : Fin 16 → EReal) (M : EReal) (i : Fin 16) (hi : L i = M) (hlow : ∀ k, k < i → L k ≠ M) :
    Finset.fold IntOp.minsi 2147483647#32 (fun k : Fin 16 => if L k = M then BitVec.ofNat 32 k.val else 16#32) Finset.univ
      = BitVec.ofNat 32 i.val := by
  have hv : ∀ k : Fin 16, (BitVec.ofNat 32 k.val).toInt = k.val := by decide
  refine fold_minsi _ _ _ _ ?_ (fun k _ => ?_) ⟨i, Finset.mem_univ i, if_pos hi⟩
  · rw [hv]; have := i.isLt; show (i.val : Int) ≤ 2147483647; omega
  · rw [hv]
    split
    · rename_i hk
      rw [hv]
      have : i ≤ k := not_lt.mp fun hlt => hlow k hlt hk
      exact_mod_cast this
    · have := i.isLt; show (i.val : Int) ≤ 16; omega

/-- A maximum over a set, started from negative infinity, is the entry attained there that is above all of them. -/
theorem fold_greatest (L : Fin 16 → EReal) (i : Fin 16) (h : ∀ k, L k ≤ L i) : Finset.fold max ⊥ L Finset.univ = L i :=
  le_antisymm (Finset.fold_max_le _ |>.mpr ⟨bot_le, fun k _ => h k⟩)
    (Finset.le_fold_max _ |>.mpr (Or.inr ⟨i, Finset.mem_univ i, le_refl _⟩))

/-! ## The kernel's selection -/

/-- The position word of the first of the greatest entries, as the kernel finds it. -/
def firstMax (L : Fin 16 → EReal) : BitVec 32 :=
  Finset.fold IntOp.minsi 2147483647#32
    (fun k : Fin 16 => if L k = Finset.fold max (Ideal.ofBits .f32 0xFF800000#32) L Finset.univ then BitVec.ofNat 32 k.val else 16#32)
    Finset.univ

/-- The entries with the one at position word `w` replaced by negative infinity. -/
def masked (L : Fin 16 → EReal) (w : BitVec 32) : Fin 16 → EReal := fun k =>
  Scalar.select (IntOp.cmpi .eq (BitVec.ofNat 32 k.val) w) (Ideal.ofBits .f32 0xFF800000#32) (L k)

/-- The weight the kernel gives expert `e` from the logits `L`. -/
def kernelGate (L : Fin 16 → EReal) (e : Fin 16) : EReal :=
  FloatOps.sitofp (F := Ideal) .f32 (BitVec.setWidth 32 (IntOp.cmpi .eq (BitVec.ofNat 32 e.val) (firstMax L)))
      * Ideal.logistic (Finset.fold max (Ideal.ofBits .f32 0xFF800000#32) L Finset.univ
          - Finset.fold max (Ideal.ofBits .f32 0xFF800000#32) (masked L (firstMax L)) Finset.univ)
    + FloatOps.sitofp (F := Ideal) .f32 (BitVec.setWidth 32 (IntOp.cmpi .eq (BitVec.ofNat 32 e.val) (firstMax (masked L (firstMax L)))))
      * (1 - Ideal.logistic (Finset.fold max (Ideal.ofBits .f32 0xFF800000#32) L Finset.univ
          - Finset.fold max (Ideal.ofBits .f32 0xFF800000#32) (masked L (firstMax L)) Finset.univ))

/-- The kernel's weights are the gate of the two greatest logits, the greatest being real. -/
theorem kernelGate_eq {L : Fin 16 → EReal} {i j : Fin 16} (h : TopTwo L i j) {a : ℝ} (ha : L i = (a : EReal)) (e : Fin 16) :
    kernelGate L e = gate a L i j e := by
  have small : ∀ k : Fin 16, k.val < 2 ^ 32 := fun k => lt_trans k.isLt (by decide)
  have hj : L j ≠ ⊤ := ((h.le_first j).trans_lt (ha ▸ EReal.coe_lt_top a)).ne
  have hmax : Finset.fold max (Ideal.ofBits .f32 0xFF800000#32) L Finset.univ = (a : EReal) := by
    rw [ofBits_bot, ← ha]
    exact fold_greatest _ i h.le_first
  have hfirst : firstMax L = BitVec.ofNat 32 i.val := by
    unfold firstMax
    rw [hmax]
    refine fold_position _ _ i ha fun k hk hEq => ?_
    rcases h.first k with b | b
    · exact b.ne (hEq.trans ha.symm)
    · exact absurd hk (not_lt.mpr b.2)
  have hmask : masked L (BitVec.ofNat 32 i.val) = fun k => if k = i then ⊥ else L k := by
    funext k
    unfold masked Scalar.select
    rw [cmpi_eq_ofNat (small k) (small i), ofBits_bot]
    by_cases hk : k = i
    · simp [hk]
    · simp [hk, Fin.val_inj]
  have hmax' : Finset.fold max (Ideal.ofBits .f32 0xFF800000#32) (fun k => if k = i then ⊥ else L k) Finset.univ = L j := by
    rw [ofBits_bot]
    refine (fold_greatest _ j fun k => ?_).trans (if_neg h.ne)
    rw [if_neg h.ne]
    split
    · exact bot_le
    · rename_i hk
      exact (h.second k hk).elim le_of_lt fun b => b.1.le
  have hsecond : L j ≠ ⊥ → firstMax (fun k => if k = i then ⊥ else L k) = BitVec.ofNat 32 j.val := by
    intro hb
    unfold firstMax
    rw [hmax']
    refine fold_position _ _ j (if_neg h.ne) fun k hk hEq => ?_
    by_cases hki : k = i
    · rw [if_pos hki] at hEq; exact hb hEq.symm
    · rw [if_neg hki] at hEq
      rcases h.second k hki with b | b
      · exact b.ne hEq
      · exact absurd hk (not_lt.mpr b.2)
  unfold kernelGate gate
  rw [hfirst, hmask, hmax, hmax', sitofp_eq (small e) (small i), logistic_sub a hj, ← EReal.coe_one, ← EReal.coe_sub]
  by_cases hb : L j = ⊥
  · rw [hb, rel_bot, add_zero, inv_one, sub_self, EReal.coe_zero, mul_zero, ite_self]
    simp only [Fin.val_inj, ite_mul, EReal.coe_one, one_mul, zero_mul]
  · rw [hsecond hb, sitofp_eq (small e) (small j)]
    simp only [Fin.val_inj, ite_mul, EReal.coe_one, one_mul, zero_mul]

/-! ## The softmax and its normalized two greatest -/

/-- The softmax of `L` at `k`, shifted by `a`. -/
def soft (a : ℝ) (L : Fin 16 → EReal) (k : Fin 16) : ℝ := rel a (L k) / ∑ b, rel a (L b)

/-- A sum of reals as an extended real is the sum of its terms as extended reals. -/
theorem coe_sum (f : Fin 16 → ℝ) (s : Finset (Fin 16)) : ((∑ a ∈ s, f a : ℝ) : EReal) = ∑ a ∈ s, (f a : EReal) := by
  induction s using Finset.induction_on with
  | empty => simp
  | insert a s ha ih => rw [Finset.sum_insert ha, Finset.sum_insert ha, EReal.coe_add, ih]

section

variable {L : Fin 16 → EReal} {i j : Fin 16} (h : TopTwo L i j) {a : ℝ} (ha : L i = (a : EReal))

include h ha

/-- No logit is positive infinity when the greatest is real. -/
theorem TopTwo.ne_top (k : Fin 16) : L k ≠ ⊤ := ((h.le_first k).trans_lt (ha ▸ EReal.coe_lt_top a)).ne

/-- The softmax's denominator is positive: the greatest logit alone contributes one. -/
theorem TopTwo.sum_pos : 0 < ∑ b, rel a (L b) :=
  Finset.sum_pos' (fun b _ => rel_nonneg a (h.ne_top ha b)) ⟨i, Finset.mem_univ i, by rw [ha, rel_self]; exact one_pos⟩

/-- The extended-real softmax is the real one. -/
theorem TopTwo.soft_coe (k : Fin 16) :
    Ideal.div (Ideal.exp (L k - (a : EReal))) (∑ b, Ideal.exp (L b - (a : EReal))) = (soft a L k : EReal) := by
  have hs : (∑ b, Ideal.exp (L b - (a : EReal))) = ((∑ b, rel a (L b) : ℝ) : EReal) := by
    rw [coe_sum]
    exact Finset.sum_congr rfl fun b _ => exp_sub a (h.ne_top ha b)
  rw [hs, Ideal.div_coe (h.sum_pos ha).ne', exp_sub a (h.ne_top ha k), ← EReal.coe_mul, soft, mul_one_div]

/-- The two greatest logits are the two greatest probabilities. -/
theorem TopTwo.soft : TopTwo (fun k => (Moe.soft a L k : EReal)) i j :=
  h.map _ (fun b d hbd => EReal.coe_lt_coe_iff.mpr
      (div_lt_div_of_pos_right (rel_lt a hbd (h.ne_top ha d)) (h.sum_pos ha)))
    fun b d hbd => by simp only [Moe.soft, hbd]

/-- The greater probability over the sum of the two is the logistic of the difference of the logits. -/
theorem TopTwo.ratio : Moe.soft a L i / (Moe.soft a L i + Moe.soft a L j) = (1 + rel a (L j))⁻¹ := by
  have hs := (h.sum_pos ha).ne'
  have hj := rel_nonneg a (h.ne_top ha j)
  unfold Moe.soft
  rw [ha, rel_self, ← add_div, div_div_div_cancel_right₀ hs, one_div]

/-- The lesser probability over the sum of the two is the rest to one. -/
theorem TopTwo.ratio_second : Moe.soft a L j / (Moe.soft a L i + Moe.soft a L j) = 1 - (1 + rel a (L j))⁻¹ := by
  have hs := (h.sum_pos ha).ne'
  have hj : (1 + rel a (L j)) ≠ 0 := by have := rel_nonneg a (h.ne_top ha j); positivity
  unfold Moe.soft
  rw [ha, rel_self, ← add_div, div_div_div_cancel_right₀ hs, eq_sub_iff_add_eq, inv_eq_one_div, ← add_div, add_comm,
    div_self hj]

/-- The normalized two greatest probabilities, each taken where its position is `e`, add up to the gate. -/
theorem TopTwo.sum_normalized (e : Fin 16) :
    (∑ r : Fin 2, Ideal.div ((Moe.soft a L (![i, j] r) : ℝ) : EReal) (∑ r' : Fin 2, ((Moe.soft a L (![i, j] r') : ℝ) : EReal))
        * FloatOps.uitofp (F := Ideal) .f32 (IntOp.cmpi .eq (BitVec.ofNat 32 (![i, j] r).val) (BitVec.ofNat 32 e.val)))
      = gate a L i j e := by
  have small : ∀ k : Fin 16, k.val < 2 ^ 32 := fun k => lt_trans k.isLt (by decide)
  have hi : 0 < Moe.soft a L i := div_pos (by rw [ha, rel_self]; exact one_pos) (h.sum_pos ha)
  have hj : 0 ≤ Moe.soft a L j := div_nonneg (rel_nonneg a (h.ne_top ha j)) (h.sum_pos ha).le
  have hne : Moe.soft a L i + Moe.soft a L j ≠ 0 := (add_pos_of_pos_of_nonneg hi hj).ne'
  rw [Fin.sum_univ_two, Fin.sum_univ_two]
  simp only [Matrix.cons_val_zero, Matrix.cons_val_one]
  rw [← EReal.coe_add, Ideal.div_coe hne, Ideal.div_coe hne, ← EReal.coe_mul, ← EReal.coe_mul, mul_one_div, mul_one_div,
    h.ratio ha, h.ratio_second ha, uitofp_eq (small i) (small e), uitofp_eq (small j) (small e), gate]
  simp only [Fin.val_inj, eq_comm (a := e), mul_ite, mul_one, mul_zero]

end

end Cert.Moe

end
-- ==== Proof.KernelBlock.lean ====
module

public import proofs.«01_k».proof.Proof.KernelCases
public import proofs.«01_k».proof.Proof.Ffn
public import proofs.«01_k».proof.Proof.Gate
public import Idealize.ShloMosaic.Lib.Pointwise

@[expose] public section

set_option maxRecDepth 16384

noncomputable section

open Idealize.ShloMosaic Idealize.ShloMosaic.TcCoe Idealize.SL.Sem

/-! # What one block of the kernel computes, read at one token and one feature -/

namespace Cert.KernelIdeal.Moe

open Cert.Moe Cert.KernelIdeal Cert.KernelIdeal.Gen

/-- The gating weights the first point stores are those of the token's logits. -/
theorem pay4_apply (x : Vec Ideal S2048x1024 .f32) (g : Vec Ideal S16x1024 .f32) (n : Fin 2048) (e : Fin 16) :
    k0_pay4 x g (ix2 n e) = (kernelGate (proj (fun k => x (ix2 n k)) fun j k => g (ix2 j k)) e : EReal) := by
  pointwise [k0_pay4]
  rfl

/-- A sum against the indicator of column `a` is the entry of that column. -/
theorem sum_column (s : Fin 32 → EReal) (a : Fin 32) :
    (∑ c : Fin 32, s c * FloatOps.sitofp (F := Ideal) .f32
      (BitVec.setWidth 32 (IntOp.cmpi .eq (BitVec.ofNat 32 c.val) (BitVec.ofNat 32 a.val)))) = s a := by
  have small : ∀ k : Fin 32, k.val < 2 ^ 32 := fun k => lt_trans k.isLt (by decide)
  simp only [sitofp_eq (small _) (small a), Fin.val_inj, mul_ite, mul_one, mul_zero]
  rw [Finset.sum_ite_eq' Finset.univ a s, if_pos (Finset.mem_univ a)]

/-- The block a point adds: the hidden layer of the point's two matrices times the scratch's column of that point. -/
theorem pay3_apply (i : grid0.Coords) (x : Vec Ideal S2048x1024 .f32) (w1 : Vec Ideal S1x512x1024 .f32)
    (w2 : Vec Ideal S1x1024x512 .f32) (s : Vec Ideal S2048x32 .f32) (o : Vec Ideal S2048x1024 .f32) (n : Fin 2048) (d : Fin 1024)
    (a : Fin 32) (ha : (i 0).val = a.val) :
    k0_pay3 i x w1 w2 s o (ix2 n d) = ((o (ix2 n d) : EReal)
      + ffn (fun k => x (ix2 n k)) (fun f k => w1 (ix3 (0 : Fin 1) f k)) (fun f => w2 (ix3 (0 : Fin 1) d f)) * s (ix2 n a) : EReal) := by
  rw [← sum_column (fun c => s (ix2 n c)) a, ← ha]
  pointwise [k0_pay3]
  rfl

/-- The block the output starts from is zero. -/
theorem pay2_apply (n : Fin 2048) (d : Fin 1024) : k0_pay2 (F := Ideal) (ix2 n d) = (0 : EReal) := by
  pointwise [k0_pay2]

/-- The table's columns below sixteen hold the gating weights. -/
theorem table_gate (x : Vec Ideal S2048x1024 .f32) (g : Vec Ideal S16x1024 .f32) (n : Fin 2048) (e : Fin 16) :
    table x g (ix2 n (e.castAdd 16 : Fin 32))
      = (kernelGate (proj (fun k => x (ix2 n k)) fun j k => g (ix2 j k)) e : EReal) := by
  rw [← pay4_apply]
  unfold table
  rw [View.canon_cons_of_not_mem]
  · have e0 : (ix2 n (e.castAdd 16 : Fin 32) : S2048x32.Idx)
        = (Rect.unit (s := S2048x32) ![0, 0] S2048x16.size inb_S2048x32_S2048x16_0_0).emb (ix2 n e) := by
      funext b
      match b with
      | ⟨0, _⟩ => exact Fin.ext (show n.val = 0 + 1 * n.val by omega)
      | ⟨1, _⟩ => exact Fin.ext (show e.val = 0 + 1 * e.val by omega)
    rw [e0, View.canon_cons_emb]
  · intro hy
    have h1 : 16 ≤ e.val := ((Rect.mem_set_unit (s := S2048x32) (inb := inb_S2048x32_S2048x16_0_16)).mp hy (1 : Fin 2)).1
    exact absurd e.isLt (not_lt.mpr h1)

/-- The table's columns from sixteen on hold ones. -/
theorem table_one (x : Vec Ideal S2048x1024 .f32) (g : Vec Ideal S16x1024 .f32) (n : Fin 2048) (e : Fin 16) :
    table x g (ix2 n (e.natAdd 16 : Fin 32)) = (1 : EReal) := by
  unfold table
  have e0 : (ix2 n (e.natAdd 16 : Fin 32) : S2048x32.Idx)
      = (Rect.unit (s := S2048x32) ![0, 16] S2048x16.size inb_S2048x32_S2048x16_0_16).emb (ix2 n e) := by
    funext b
    match b with
    | ⟨0, _⟩ => exact Fin.ext (show n.val = 0 + 1 * n.val by omega)
    | ⟨1, _⟩ => exact Fin.ext (show 16 + e.val = 16 + 1 * e.val by omega)
  rw [e0, View.canon_cons_emb]
  pointwise [k0_pay1, k0_pay5]

end Cert.KernelIdeal.Moe

end
-- ==== Proof.KernelValue.lean ====
module

public import proofs.«01_k».proof.Proof.KernelArrays
public import proofs.«01_k».proof.Proof.KernelBlock

@[expose] public section

set_option maxRecDepth 16384

noncomputable section

open Idealize.ShloMosaic Idealize.ShloMosaic.TcCoe Idealize.SL.Sem

/-! # What the result array holds after the run -/

namespace Cert.KernelIdeal.Moe

open Cert.Moe Cert.KernelIdeal Cert.KernelIdeal.Gen Cert.KernelIdeal.Value

variable (m : (ℓ : Loc nD τ sig) → Buf (Elt Ideal) ℓ) (c : Dev nD)

/-- Token `n`. -/
def token (n : Fin 2048) (k : Fin 1024) : EReal := (m ((c : Thread nD τ).loc main_arg0) : Vec Ideal S2048x1024 .f32) (ix2 n k)
/-- The gate's row for expert `j`. -/
def gateRow (j : Fin 16) (k : Fin 1024) : EReal := (m ((c : Thread nD τ).loc main_arg5) : Vec Ideal S16x1024 .f32) (ix2 j k)
/-- Expert `e`'s up-projection. -/
def up (e : Fin 16) (f : Fin 512) (k : Fin 1024) : EReal := (m ((c : Thread nD τ).loc main_arg1) : Vec Ideal S16x512x1024 .f32) (ix3 e f k)
/-- Expert `e`'s down-projection. -/
def down (e : Fin 16) (d : Fin 1024) (f : Fin 512) : EReal := (m ((c : Thread nD τ).loc main_arg2) : Vec Ideal S16x1024x512 .f32) (ix3 e d f)
/-- The shared expert's up-projection. -/
def sharedUp (h : Fin 1024) (k : Fin 1024) : EReal := (m ((c : Thread nD τ).loc main_arg3) : Vec Ideal S1024x1024 .f32) (ix2 h k)
/-- The shared expert's down-projection. -/
def sharedDown (d : Fin 1024) (h : Fin 1024) : EReal := (m ((c : Thread nD τ).loc main_arg4) : Vec Ideal S1024x1024 .f32) (ix2 d h)
/-- Token `n`'s logits. -/
def logit (n : Fin 2048) (j : Fin 16) : EReal := proj (token m c n) (gateRow m c) j

/-- The scratch table of the run. -/
def scratch : Vec Ideal S2048x32 .f32 := table (m ((c : Thread nD τ).loc main_arg0)) (m ((c : Thread nD τ).loc main_arg5))

/-- What point `e` adds to the output at token `n` and feature `d`. -/
def part (n : Fin 2048) (d : Fin 1024) (e : Fin 18) : EReal :=
  ffn (token m c n) (fun f k => stackedUp m c (ix3 e f k)) (fun f => stackedDown m c (ix3 e d f))
    * scratch m c (ix2 n (e.castLE (by decide) : Fin 32))

/-- A point's block over what the output held. -/
theorem pay3_point (t : Fin cfg0.N) (e : Fin 18) (he : t.val = e.val) (o : Vec Ideal S2048x1024 .f32) (n : Fin 2048) (d : Fin 1024) :
    k0_pay3 (grid0.coords t) (iblk m c 0 t) (iblk m c 2 t) (iblk m c 3 t) (scratch m c) o (ix2 n d)
      = ((o (ix2 n d) : EReal) + part m c n d e : EReal) := by
  rw [pay3_apply _ _ _ _ _ _ n d (e.castLE (by decide)) ((coord t).trans he)]
  simp only [iblk_up m c t e he, iblk_down m c t e he, iblk_token m c t]
  rfl

/-- After point `t` the scratch holds the table and the output the sum of the points so far. -/
theorem outsAt_eq : ∀ (t : Nat) (h : t < cfg0.N) (h18 : t + 1 ≤ 18),
    (outsAt0 m c t h).2 = scratch m c
      ∧ ∀ n d, (outsAt0 m c t h).1 (ix2 n d) = (∑ e : Fin (t + 1), part m c n d (e.castLE h18) : EReal)
  | 0, h, h18 => by
    rw [outsAt0_A m c ⟨0, h⟩ rfl rfl]
    have hs := scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) scM0_0 (Memref.isWhole_whole _) ((hcond0_0 ⟨0, h⟩).mpr rfl)
      ((hcond0_1 ⟨0, h⟩).mpr rfl) (iblk m c 0 ⟨0, h⟩) (iblk m c 1 ⟨0, h⟩) (iblk m c 2 ⟨0, h⟩) (iblk m c 3 ⟨0, h⟩)
    have ht : table (iblk m c 0 ⟨0, h⟩) (iblk m c 1 ⟨0, h⟩) = scratch m c := by rw [iblk_token, iblk_gate]; rfl
    refine ⟨hs.trans ht, fun n d => ?_⟩
    dsimp only
    rw [out_first, ht, pay3_point m c ⟨0, h⟩ 0 rfl, pay2_apply, zero_add, Fin.sum_univ_one]
    rfl
  | t + 1, h, h18 => by
    have hN : t + 1 < 18 := h18
    have hB : ¬(⟨t + 1, h⟩ : Fin cfg0.N).val % 18 = 0 := by dsimp only; omega
    obtain ⟨ih2, ih1⟩ := outsAt_eq t (Nat.lt_of_succ_lt h) (Nat.le_of_succ_le h18)
    rw [outsAt0_B m c ⟨t + 1, h⟩ hB hB]
    refine ⟨ih2, fun n d => ?_⟩
    dsimp only
    rw [out_later]
    show k0_pay3 _ _ _ _ (outsAt0 m c t _).2 (outsAt0 m c t _).1 (ix2 n d) = _
    rw [ih2, pay3_point m c ⟨t + 1, h⟩ ⟨t + 1, hN⟩ rfl, ih1 n d, Fin.sum_univ_castSucc (n := t + 1)]
    rfl

/-- The result array at token `n` and feature `d`: the sum of all eighteen points. -/
theorem G4_apply (n : Fin 2048) (d : Fin 1024) : G4 m c (ix2 n d) = (∑ e : Fin 18, part m c n d e : EReal) := by
  rw [G4_last, ← outsAt0_sweep m c 17 (lt_of_lt_of_eq (by decide) N_0.symm)]
  exact (outsAt_eq m c 17 _ (le_refl 18)).2 n d

/-- A routed expert's part is its output times its gating weight. -/
theorem part_routed (n : Fin 2048) (d : Fin 1024) (e : Fin 16) :
    part m c n d (e.castAdd 2) = ffn (token m c n) (up m c e) (down m c e d) * kernelGate (logit m c n) e := by
  have hs : scratch m c (ix2 n ((e.castAdd 2 : Fin 18).castLE (by decide) : Fin 32)) = kernelGate (logit m c n) e :=
    table_gate _ _ n e
  unfold part
  rw [hs]
  simp only [stackedUp_routed, stackedDown_routed]
  rfl

/-- The last two parts are the shared expert's two halves. -/
theorem part_shared (n : Fin 2048) (d : Fin 1024) :
    part m c n d ((0 : Fin 2).natAdd 16) + part m c n d ((1 : Fin 2).natAdd 16)
      = ffn (token m c n) (sharedUp m c) (sharedDown m c d) := by
  have hs : ∀ e : Fin 2, scratch m c (ix2 n ((e.natAdd 16 : Fin 18).castLE (by decide) : Fin 32)) = (1 : EReal) := fun e =>
    table_one _ _ n (e.castLE (by decide))
  have d0 : ∀ f : Fin 512, stackedDown m c (ix3 ((0 : Fin 2).natAdd 16 : Fin 18) d f) = sharedDown m c d (f.castAdd 512) :=
    fun f => stackedDown_first m c d f
  have d1 : ∀ f : Fin 512, stackedDown m c (ix3 ((1 : Fin 2).natAdd 16 : Fin 18) d f) = sharedDown m c d (f.natAdd 512) :=
    fun f => stackedDown_second m c d f
  rw [ffn_halves]
  unfold part
  rw [hs, hs, mul_one, mul_one]
  simp only [stackedUp_first, stackedUp_second, d0, d1]
  rfl

/-- The kernel's result at token `n` and feature `d`, where the token's greatest logit is real. -/
theorem kernel_eq (n : Fin 2048) (d : Fin 1024) {i j : Fin 16} (h : TopTwo (logit m c n) i j) {a : ℝ}
    (ha : logit m c n i = (a : EReal)) :
    G4 m c (ix2 n d) = (ffn (token m c n) (sharedUp m c) (sharedDown m c d)
      + ∑ e : Fin 16, ffn (token m c n) (up m c e) (down m c e d) * gate a (logit m c n) i j e : EReal) := by
  rw [G4_apply, Fin.sum_univ_add (a := 16) (b := 2), Fin.sum_univ_two, part_shared, add_comm]
  simp only [part_routed, kernelGate_eq h ha]

end Cert.KernelIdeal.Moe

end
-- ==== Proof.RefTerms.lean ====
module

public import proofs.«01_k».proof.Proof.Gen.ReferenceIdeal.Run
public import proofs.«01_k».proof.Proof.Ffn
public import Idealize.ShloMosaic.Lib.Pointwise

@[expose] public section

set_option maxRecDepth 16384

noncomputable section

open Idealize.ShloMosaic Idealize.ShloMosaic.TcCoe Idealize.SL.Sem

/-! # What the reference computes, read at one token and one feature -/

namespace Cert.ReferenceIdeal.Moe

open Cert.Moe Cert.ReferenceIdeal Cert.ReferenceIdeal.Gen Cert.ReferenceIdeal.Value

/-- One expert's matrix is cut from the stacked up-projections whichever expert it is. -/
theorem slices_up (e : Nat) (he : e < 16) : S16x512x1024.Slices ![e, 0, 0] S1x512x1024 :=
  ⟨rfl, fun a => by
    match a with
    | ⟨0, _⟩ => exact he
    | ⟨1, _⟩ => exact le_refl 512
    | ⟨2, _⟩ => exact le_refl 1024⟩

/-- One expert's matrix is cut from the stacked down-projections whichever expert it is. -/
theorem slices_down (e : Nat) (he : e < 16) : S16x1024x512.Slices ![e, 0, 0] S1x1024x512 :=
  ⟨rfl, fun a => by
    match a with
    | ⟨0, _⟩ => exact he
    | ⟨1, _⟩ => exact le_refl 1024
    | ⟨2, _⟩ => exact le_refl 512⟩

section

variable {F : FTy → Type} [FloatOps F] (V : Valuation τ sig (Elt F))

/-- Expert `e`'s hidden layer before its activation. -/
def hidden (e : Nat) (he : e < 16) : FVec F S2048x512 .f32 :=
  Host.dotGeneral (φ₁ := .f32) (φ₂ := .f32) dot_S2048x1024_S1024x512_S2048x512_1_0_0_1_n_n none (V (Proc.devRef .tc main_arg0)) (transpose S1024x512 [1, 0] (shapeCast S512x1024 (extractStridedSlice S1x512x1024 ![e, 0, 0] (V (Proc.devRef .tc main_arg1)) (slices_up e he)) shapeCasts_S1x512x1024_S512x1024) transposes_S512x1024_S1024x512_1_0)

/-- Expert `e`'s weight at each token. -/
def weight (e : Nat) : FVec F S2048 .f32 :=
  Host.reduceAdd (mulf (res_main_v21 V) (uitofp .f32 (cmpi .eq (res_main_indices V) (broadcastInDim S2048x2 ![] bcast_S_S2048x2 (constantI S_ 32 (BitVec.ofNat 32 e)))))) (constant S_ .f32 0x00000000#32) reducesTo_S2048x2_S2048_d1 h_S_

/-- Expert `e`'s weighted output. -/
def term (e : Nat) (he : e < 16) : FVec F S2048x1024 .f32 :=
  mulf (Host.dotGeneral (φ₁ := .f32) (φ₂ := .f32) dot_S2048x512_S512x1024_S2048x1024_1_0_0_1_n_n none (mulf (hidden V e he) (Host.divf (broadcastInDim S2048x512 ![] bcast_S_S2048x512 (constant S_ .f32 0x3F800000#32)) (addf (broadcastInDim S2048x512 ![] bcast_S_S2048x512 (constant S_ .f32 0x3F800000#32)) (Host.exp (Host.negf (hidden V e he)))))) (transpose S512x1024 [1, 0] (shapeCast S1024x512 (extractStridedSlice S1x1024x512 ![e, 0, 0] (V (Proc.devRef .tc main_arg2)) (slices_down e he)) shapeCasts_S1x1024x512_S1024x512) transposes_S1024x512_S512x1024_1_0)) (broadcastInDim S2048x1024 ![0, 1] bcast_S2048x1_S2048x1024_0_1 (broadcastInDim S2048x1 ![0] bcast_S2048_S2048x1_0 (weight V e)))

/-- The shared expert's output. -/
def shared : FVec F S2048x1024 .f32 :=
  Host.dotGeneral (φ₁ := .f32) (φ₂ := .f32) dot_S2048x1024_S1024x1024_S2048x1024_1_0_0_1_n_n none (mulf (res_main_v1 V) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (res_main_v1 V)))))) (transpose S1024x1024 [1, 0] (V (Proc.devRef .tc main_arg4)) transposes_S1024x1024_S1024x1024_1_0)

/-- The sum of the weighted outputs of the experts below `e`, in order, over zeros. -/
def routed : (e : Nat) → e ≤ 16 → FVec F S2048x1024 .f32
  | 0, _ => broadcastInDim S2048x1024 ![] bcast_S_S2048x1024 (constant S_ .f32 0x00000000#32)
  | e + 1, h => addf (routed e (Nat.le_of_succ_le h)) (term V e h)

theorem routed_five : res_main_v112 V = routed V 5 (by decide) := rfl
theorem routed_ten : res_main_v202 V = routed V 10 (by decide) := by
  unfold res_main_v202; rw [routed_five]; rfl
theorem routed_fifteen : res_main_v292 V = routed V 15 (by decide) := by
  unfold res_main_v292; rw [routed_ten]; rfl

/-- The reference's result: the shared expert's output plus the routed experts' sum. -/
def result : FVec F S2048x1024 .f32 := addf (shared V) (routed V 16 (le_refl 16))

end

/-! ## At an index -/

section

variable (V : Valuation τ sig (Elt Ideal))

/-- Token `n`. -/
def token (n : Fin 2048) (k : Fin 1024) : EReal := V (Proc.devRef .tc main_arg0) (ix2 n k)
/-- The gate's row for expert `j`. -/
def gateRow (j : Fin 16) (k : Fin 1024) : EReal := V (Proc.devRef .tc main_arg5) (ix2 j k)
/-- Expert `e`'s up-projection. -/
def up (e : Fin 16) (f : Fin 512) (k : Fin 1024) : EReal := V (Proc.devRef .tc main_arg1) (ix3 e f k)
/-- Expert `e`'s down-projection. -/
def down (e : Fin 16) (d : Fin 1024) (f : Fin 512) : EReal := V (Proc.devRef .tc main_arg2) (ix3 e d f)
/-- The shared expert's up-projection. -/
def sharedUp (h : Fin 1024) (k : Fin 1024) : EReal := V (Proc.devRef .tc main_arg3) (ix2 h k)
/-- The shared expert's down-projection. -/
def sharedDown (d : Fin 1024) (h : Fin 1024) : EReal := V (Proc.devRef .tc main_arg4) (ix2 d h)
/-- Token `n`'s logits. -/
def logit (n : Fin 2048) (j : Fin 16) : EReal := proj (token V n) (gateRow V) j
/-- Token `n`'s two greatest probabilities. -/
def value (n : Fin 2048) (r : Fin 2) : EReal := res_main_values V (ix2 n r)
/-- The position words of token `n`'s two greatest probabilities. -/
def index (n : Fin 2048) (r : Fin 2) : BitVec 32 := res_main_indices V (ix2 n r)

/-- The shared expert's output at an index. -/
theorem shared_apply (n : Fin 2048) (d : Fin 1024) :
    shared V (ix2 n d) = (ffn (token V n) (sharedUp V) (sharedDown V d) : EReal) := by
  pointwise [shared, res_main_v1]
  rfl

/-- Each of the two greatest probabilities over the sum of the two. -/
theorem normalized_apply (n : Fin 2048) (r : Fin 2) :
    res_main_v21 V (ix2 n r) = (Ideal.div (value V n r) (∑ r' : Fin 2, value V n r') : EReal) := by
  pointwise [res_main_v21]
  rfl

/-- The weight of expert `e` at token `n` is the sum of the token's normalized probabilities over the picks equal to `e`. -/
theorem weight_apply (e : Nat) (n : Fin 2048) :
    weight V e (ix1 n) = (∑ r : Fin 2, Ideal.div (value V n r) (∑ r' : Fin 2, value V n r')
      * FloatOps.uitofp (F := Ideal) .f32 (IntOp.cmpi .eq (index V n r) (BitVec.ofNat 32 e)) : EReal) := by
  pointwise [weight]
  simp only [normalized_apply]
  rfl

/-- Expert `e`'s weighted output at an index. -/
theorem term_apply (e : Fin 16) (n : Fin 2048) (d : Fin 1024) :
    term V e.val e.isLt (ix2 n d) = (ffn (token V n) (up V e) (down V e d) * weight V e.val (ix1 n) : EReal) := by
  obtain ⟨e, he⟩ := e
  pointwise [term, hidden]
  rfl

/-- The routed experts' sum at an index. -/
theorem routed_apply (n : Fin 2048) (d : Fin 1024) : ∀ (e : Nat) (he : e ≤ 16),
    routed V e he (ix2 n d) = (∑ a : Fin e, term V a.val (lt_of_lt_of_le a.isLt he) (ix2 n d) : EReal)
  | 0, _ => by
    pointwise [routed]
    simp
  | e + 1, h => by
    rw [Fin.sum_univ_castSucc]
    show (routed V e (Nat.le_of_succ_le h) (ix2 n d) + term V e h (ix2 n d) : EReal) = _
    rw [routed_apply n d e (Nat.le_of_succ_le h)]
    rfl

/-- The shifted exponentials over their sum: the softmax of token `n`'s logits. -/
theorem prob_apply (n : Fin 2048) (j : Fin 16) :
    res_main_v17 V (ix2 n j) = (Ideal.div
      (Ideal.exp (logit V n j - max (Ideal.ofBits .f32 0xFF800000#32) (Finset.fold max (Ideal.ofBits .f32 0xFF800000#32) (logit V n) Finset.univ)))
      (∑ a : Fin 16, Ideal.exp (logit V n a - max (Ideal.ofBits .f32 0xFF800000#32) (Finset.fold max (Ideal.ofBits .f32 0xFF800000#32) (logit V n) Finset.univ))) : EReal) := by
  pointwise [res_main_v17, res_main_v13]
  erw [Shape.ReducesTo.fold_fiber_r2_a1]
  pointwise [res_main_v6]
  rfl

/-- The program's last sum is the result stated above. -/
theorem result_apply (n : Fin 2048) (d : Fin 1024) :
    result V (ix2 n d) = (shared V (ix2 n d) + ∑ a : Fin 16, term V a.val a.isLt (ix2 n d) : EReal) := by
  rw [← routed_apply V n d 16 (le_refl 16)]
  rfl

end

end Cert.ReferenceIdeal.Moe

end
-- ==== Proof.RefGate.lean ====
module

public import proofs.«01_k».proof.Proof.RefTerms
public import proofs.«01_k».proof.Proof.Gate

@[expose] public section

set_option maxRecDepth 16384

noncomputable section

open Idealize.ShloMosaic Idealize.ShloMosaic.TcCoe Idealize.SL.Sem Idealize.ShloMosaic.StableHlo

/-! # The reference's two picks and their weights -/

namespace Cert.ReferenceIdeal.Moe

open Cert.Moe Cert.ReferenceIdeal Cert.ReferenceIdeal.Gen Cert.ReferenceIdeal.Value

/-- The order the picks are sorted by: the greater entry first. -/
theorem before_eq (p : Fin 16 → EReal) (a b : Fin 16) :
    ((FloatOps.cmpfTotal (F := Ideal) (φ := .f32) .gt (p a) (p b)) == 1#1) = decide (p b < p a) := by
  show (BitVec.ofBool (decide (p b < p a)) == 1#1) = _
  by_cases h : p b < p a <;> simp [h]

/-- The position along a row replaced. -/
theorem along_row (n : Fin 2048) (a k : Fin 16) : (ix2 n a : S2048x16.Idx).along (1 : Fin 2) k = ix2 n k := by
  funext b
  match b with
  | ⟨0, _⟩ => rfl
  | ⟨1, _⟩ => rfl

/-- The first two columns cut from a table of sixteen. -/
theorem slice_row {α : Type} (y : S2048x16.Idx → α) (n : Fin 2048) (r : Fin 2) :
    extractStridedSlice S2048x2 (fun _ => 0) y sliceFits_S2048x16_S2048x2 (ix2 n r)
      = y (ix2 n (r.castLE (by decide) : Fin 16)) := by
  refine congrArg y ?_
  funext b
  match b with
  | ⟨0, _⟩ => exact Fin.ext (Nat.zero_add _)
  | ⟨1, _⟩ => exact Fin.ext (Nat.zero_add _)

/-- The order the picks are sorted by, on the values two positions hold. -/
def order : Ideal .f32 × BitVec 32 → Ideal .f32 × BitVec 32 → BitVec 1 :=
  fun l r => FloatOps.cmpfTotal (F := Ideal) (φ := .f32) .gt l.1 r.1

variable {p : FVec Ideal S2048x16 .f32} {n : Fin 2048} {i j : Fin 16}

/-- A row sorted with its positions: entry `a` of both results. -/
theorem sort_row (y : IVec S2048x16 32) (a : Fin 16) :
    (Host.sort2 S2048x16 1 order p y).1 (ix2 n a)
        = p (ix2 n (sortedFrom (fun k k' : Fin 16 => FloatOps.cmpfTotal (F := Ideal) (φ := .f32) .gt (p (ix2 n k)) (p (ix2 n k')) == 1#1) a))
      ∧ (Host.sort2 S2048x16 1 order p y).2 (ix2 n a)
        = y (ix2 n (sortedFrom (fun k k' : Fin 16 => FloatOps.cmpfTotal (F := Ideal) (φ := .f32) .gt (p (ix2 n k)) (p (ix2 n k')) == 1#1) a)) := by
  unfold Host.sort2
  rw [dif_pos (show 1 < S2048x16.rank by decide)]
  constructor
  · show p ((ix2 n a : S2048x16.Idx).along (1 : Fin 2) (sortedFrom (fun k k' : Fin 16 =>
      FloatOps.cmpfTotal (F := Ideal) (φ := .f32) .gt (p ((ix2 n a : S2048x16.Idx).along (1 : Fin 2) k))
        (p ((ix2 n a : S2048x16.Idx).along (1 : Fin 2) k')) == 1#1) a)) = _
    simp only [along_row]
    exact congrArg p (along_row n a _)
  · show y ((ix2 n a : S2048x16.Idx).along (1 : Fin 2) (sortedFrom (fun k k' : Fin 16 =>
      FloatOps.cmpfTotal (F := Ideal) (φ := .f32) .gt (p ((ix2 n a : S2048x16.Idx).along (1 : Fin 2) k))
        (p ((ix2 n a : S2048x16.Idx).along (1 : Fin 2) k')) == 1#1) a)) = _
    simp only [along_row]
    exact congrArg y (along_row n a _)

/-- The two values picked from a row are its two greatest. -/
theorem topK_value (h : TopTwo (fun k => (p (ix2 n k) : EReal)) i j) (r : Fin 2) :
    (Host.topK S2048x2 1 (FloatOps.cmpfTotal .gt) p sliceFits_S2048x16_S2048x2).1 (ix2 n r) = p (ix2 n (![i, j] r)) := by
  unfold Host.topK
  dsimp only
  rw [slice_row]
  refine (sort_row _ _).1.trans ?_
  rw [h.sortedFrom _ (fun a b => before_eq (fun k => p (ix2 n k)) a b) r]

/-- The two indices picked from a row are the positions of its two greatest. -/
theorem topK_index (h : TopTwo (fun k => (p (ix2 n k) : EReal)) i j) (r : Fin 2) :
    (Host.topK S2048x2 1 (FloatOps.cmpfTotal .gt) p sliceFits_S2048x16_S2048x2).2 (ix2 n r)
      = BitVec.ofNat 32 (![i, j] r).val := by
  unfold Host.topK
  dsimp only
  rw [slice_row]
  refine (sort_row _ _).2.trans ?_
  rw [h.sortedFrom _ (fun a b => before_eq (fun k => p (ix2 n k)) a b) r]
  rfl

variable (V : Valuation τ sig (Elt Ideal))

/-- Token `n`'s softmax. -/
def prob (n : Fin 2048) (k : Fin 16) : EReal := res_main_v17 V (ix2 n k)

/-- The reference's weights are the gate of the two greatest logits, the greatest being real. -/
theorem weight_eq (n : Fin 2048) {i j : Fin 16} (h : TopTwo (logit V n) i j) {a : ℝ} (ha : logit V n i = (a : EReal))
    (e : Fin 16) : weight V e.val (ix1 n) = gate a (logit V n) i j e := by
  have hmax : Finset.fold max (Ideal.ofBits .f32 0xFF800000#32) (logit V n) Finset.univ = (a : EReal) := by
    rw [ofBits_bot, ← ha]
    exact fold_greatest _ i h.le_first
  have hp : ∀ k, prob V n k = (soft a (logit V n) k : EReal) := by
    intro k
    refine (prob_apply V n k).trans ?_
    rw [hmax, ofBits_bot, max_eq_right bot_le]
    exact h.soft_coe ha k
  have htop : TopTwo (fun k => prob V n k) i j := by
    have e : (fun k => prob V n k) = fun k => (soft a (logit V n) k : EReal) := funext hp
    rw [e]
    exact h.soft ha
  have hv : ∀ r, value V n r = ((soft a (logit V n) (![i, j] r) : ℝ) : EReal) := fun r => (topK_value htop r).trans (hp _)
  have hx : ∀ r, index V n r = BitVec.ofNat 32 (![i, j] r).val := fun r => topK_index htop r
  rw [weight_apply]
  simp only [hv, hx]
  exact h.sum_normalized ha e

/-- The reference's result at token `n` and feature `d`, where the token's greatest logit is real. -/
theorem result_eq (n : Fin 2048) (d : Fin 1024) {i j : Fin 16} (h : TopTwo (logit V n) i j) {a : ℝ}
    (ha : logit V n i = (a : EReal)) :
    result V (ix2 n d) = (ffn (token V n) (sharedUp V) (sharedDown V d)
      + ∑ e : Fin 16, ffn (token V n) (up V e) (down V e d) * gate a (logit V n) i j e : EReal) := by
  rw [result_apply, shared_apply]
  simp only [term_apply, weight_eq V n h ha]

/-- The program's last value is the result stated above. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v311) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by rw [routed_fifteen]; rfl), (h c).2⟩) (run m ρ)

end Cert.ReferenceIdeal.Moe

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_top_logit
public import proofs.«01_k».proof.Proof.KernelValue
public import proofs.«01_k».proof.Proof.RefGate
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Moe

/-- The reference runs and ends quiescent, its arguments unchanged. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An extended real whose absolute value is below positive infinity is a real. -/
theorem coe_of_abs_lt (x : EReal) (h : max x (-x) < ⊤) : ∃ y : ℝ, x = (y : EReal) := by
  obtain ⟨h1, h2⟩ := max_lt_iff.mp h
  refine ⟨x.toReal, (EReal.coe_toReal h1.ne fun hb => ?_).symm⟩
  rw [hb, EReal.neg_bot] at h2
  exact lt_irrefl _ h2

/-- The precondition makes the greatest of a token's logits real. -/
theorem finite_top (x : FVec Ideal Cert.Pre_finite_top_logit.S2048x1024 .f32) (w1 w2 s1 s2) (g : FVec Ideal Cert.Pre_finite_top_logit.S16x1024 .f32)
    (h : Cert.Pre_finite_top_logit.fn (F := Ideal) x w1 w2 s1 s2 g = fun _ => 1#1) (n : Fin 2048) :
    ∃ a : ℝ, Finset.fold max (Ideal.ofBits .f32 0xFF800000#32) (proj (fun k => x (ix2 n k)) fun j k => g (ix2 j k)) Finset.univ
      = (a : EReal) := by
  have e := congrFun h (ix1 n)
  revert e
  pointwise [Cert.Pre_finite_top_logit.fn]
  intro e
  refine coe_of_abs_lt _ ?_
  rw [ofBits_top] at e
  by_contra hlt
  exact absurd (e.symm.trans (congrArg BitVec.ofBool (decide_eq_false hlt))) (by decide)

/-- The kernel and the reference end with equal results. -/
theorem algebraic : algebraic_KernelIdeal_ReferenceIdeal_pre_finite_top_logit := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Moe.run_result m' ρ')
  rw [(h c).1]
  obtain ⟨a0, a1, a2, a3, a4, a5⟩ := hagree c
  refine funext fun (y : Cert.KernelIdeal.S2048x1024.Idx) => ?_
  rw [eq_ix2 y]
  generalize y 0 = n, y 1 = d
  obtain ⟨a, hfold⟩ := finite_top _ _ _ _ _ _ (hpre c) n
  obtain ⟨i, j, ht⟩ := exists_topTwo (Cert.KernelIdeal.Moe.logit m c n)
  have ha : Cert.KernelIdeal.Moe.logit m c n i = (a : EReal) := by
    rw [← hfold, ofBits_bot]
    exact (fold_greatest _ i ht.le_first).symm
  have t : Cert.ReferenceIdeal.Moe.token (StableHlo.launchContents m' c) = Cert.KernelIdeal.Moe.token m c :=
    funext fun n => funext fun k => congrFun a0 (ix2 n k)
  have u : Cert.ReferenceIdeal.Moe.up (StableHlo.launchContents m' c) = Cert.KernelIdeal.Moe.up m c :=
    funext fun e => funext fun f => funext fun k => congrFun a1 (ix3 e f k)
  have v : Cert.ReferenceIdeal.Moe.down (StableHlo.launchContents m' c) = Cert.KernelIdeal.Moe.down m c :=
    funext fun e => funext fun d => funext fun f => congrFun a2 (ix3 e d f)
  have su : Cert.ReferenceIdeal.Moe.sharedUp (StableHlo.launchContents m' c) = Cert.KernelIdeal.Moe.sharedUp m c :=
    funext fun h => funext fun k => congrFun a3 (ix2 h k)
  have sv : Cert.ReferenceIdeal.Moe.sharedDown (StableHlo.launchContents m' c) = Cert.KernelIdeal.Moe.sharedDown m c :=
    funext fun d => funext fun h => congrFun a4 (ix2 d h)
  have gr : Cert.ReferenceIdeal.Moe.gateRow (StableHlo.launchContents m' c) = Cert.KernelIdeal.Moe.gateRow m c :=
    funext fun j => funext fun k => congrFun a5 (ix2 j k)
  have hlog : Cert.ReferenceIdeal.Moe.logit (StableHlo.launchContents m' c) n = Cert.KernelIdeal.Moe.logit m c n := by
    unfold Cert.ReferenceIdeal.Moe.logit
    rw [t, gr]
    rfl
  refine (Cert.ReferenceIdeal.Moe.result_eq _ n d (hlog ▸ ht) (hlog ▸ ha)).trans
    (Eq.trans ?_ (Cert.KernelIdeal.Moe.kernel_eq m c n d ht ha).symm)
  rw [t, u, v, su, sv, hlog]

/-- All claims. -/
theorem claim : Cert.Claim := ⟨Cert.Kernel.Gen.facts, Cert.KernelIdeal.Gen.facts, Cert.ReferenceIdeal.Gen.facts,
  Cert.Pre_finite_top_logit.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic⟩

end Cert.Proof

end
